-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_slots_in_pool [hPre_slots_in_pool : Cert.Pre_slots_in_pool.Facts] (m : (ℓ : Loc Cert.InProjIdeal.nD Cert.InProjIdeal.τ Cert.InProjIdeal.sig) → Buf (Elt Ideal) ℓ) : Prop :=
  ∀ c : Dev Cert.InProjIdeal.nD,
    (Cert.Pre_slots_in_pool.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_slots_in_pool [hPre_slots_in_pool : Cert.Pre_slots_in_pool.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_slots_in_pool.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))) = (fun _ => 1#1)

def Pre_Moe [hPre_routing_tables : Cert.Pre_routing_tables.Facts] (m : (ℓ : Loc Cert.Moe.nD Cert.Moe.τ Cert.Moe.sig) → Buf (Elt Bits) ℓ) : Prop :=
  ∀ c : Dev Cert.Moe.nD,
    (Cert.Pre_routing_tables.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8)) (m ((c.tc : Thread Cert.Moe.nD Cert.Moe.τ).loc Cert.Moe.main_arg9)) (m ((c.tc : Thread Cert.Moe.nD Cert.Moe.τ).loc Cert.Moe.main_arg10)) (m ((c.tc : Thread Cert.Moe.nD Cert.Moe.τ).loc Cert.Moe.main_arg11)) (m ((c.tc : Thread Cert.Moe.nD Cert.Moe.τ).loc Cert.Moe.main_arg12)) (m ((c.tc : Thread Cert.Moe.nD Cert.Moe.τ).loc Cert.Moe.main_arg13)) (m ((c.tc : Thread Cert.Moe.nD Cert.Moe.τ).loc Cert.Moe.main_arg14))) = (fun _ => 1#1)

def Pre_MoeIdeal [hPre_routing_tables : Cert.Pre_routing_tables.Facts] (m : (ℓ : Loc Cert.MoeIdeal.nD Cert.MoeIdeal.τ Cert.MoeIdeal.sig) → Buf (Elt Ideal) ℓ) : Prop :=
  ∀ c : Dev Cert.MoeIdeal.nD,
    (Cert.Pre_routing_tables.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9)) (m ((c.tc : Thread Cert.MoeIdeal.nD Cert.MoeIdeal.τ).loc Cert.MoeIdeal.main_arg10)) (m ((c.tc : Thread Cert.MoeIdeal.nD Cert.MoeIdeal.τ).loc Cert.MoeIdeal.main_arg11)) (m ((c.tc : Thread Cert.MoeIdeal.nD Cert.MoeIdeal.τ).loc Cert.MoeIdeal.main_arg12)) (m ((c.tc : Thread Cert.MoeIdeal.nD Cert.MoeIdeal.τ).loc Cert.MoeIdeal.main_arg13)) (m ((c.tc : Thread Cert.MoeIdeal.nD Cert.MoeIdeal.τ).loc Cert.MoeIdeal.main_arg14))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_routing_tables [hPre_routing_tables : Cert.Pre_routing_tables.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_routing_tables.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9)) (m ((c.tc : Thread Cert.MoeRefIdeal.nD Cert.MoeRefIdeal.τ).loc Cert.MoeRefIdeal.main_arg10)) (m ((c.tc : Thread Cert.MoeRefIdeal.nD Cert.MoeRefIdeal.τ).loc Cert.MoeRefIdeal.main_arg11)) (m ((c.tc : Thread Cert.MoeRefIdeal.nD Cert.MoeRefIdeal.τ).loc Cert.MoeRefIdeal.main_arg12)) (m ((c.tc : Thread Cert.MoeRefIdeal.nD Cert.MoeRefIdeal.τ).loc Cert.MoeRefIdeal.main_arg13)) (m ((c.tc : Thread Cert.MoeRefIdeal.nD Cert.MoeRefIdeal.τ).loc Cert.MoeRefIdeal.main_arg14))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjIdeal_pre_slots_in_pool [hInProjIdeal : Cert.InProjIdeal.Facts] [hPre_slots_in_pool : Cert.Pre_slots_in_pool.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_slots_in_pool m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_InProjRefIdeal_pre_slots_in_pool [hInProjRefIdeal : Cert.InProjRefIdeal.Facts] [hPre_slots_in_pool : Cert.Pre_slots_in_pool.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_slots_in_pool m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_Moe [hMoe : Cert.Moe.Facts] [hPre_routing_tables : Cert.Pre_routing_tables.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9)
      ∧ r.2.mem ((c.tc : Thread Cert.Moe.nD Cert.Moe.τ).loc Cert.Moe.main_arg10) = m ((c.tc : Thread Cert.Moe.nD Cert.Moe.τ).loc Cert.Moe.main_arg10)
      ∧ r.2.mem ((c.tc : Thread Cert.Moe.nD Cert.Moe.τ).loc Cert.Moe.main_arg11) = m ((c.tc : Thread Cert.Moe.nD Cert.Moe.τ).loc Cert.Moe.main_arg11)
      ∧ r.2.mem ((c.tc : Thread Cert.Moe.nD Cert.Moe.τ).loc Cert.Moe.main_arg12) = m ((c.tc : Thread Cert.Moe.nD Cert.Moe.τ).loc Cert.Moe.main_arg12)
      ∧ r.2.mem ((c.tc : Thread Cert.Moe.nD Cert.Moe.τ).loc Cert.Moe.main_arg13) = m ((c.tc : Thread Cert.Moe.nD Cert.Moe.τ).loc Cert.Moe.main_arg13)
      ∧ r.2.mem ((c.tc : Thread Cert.Moe.nD Cert.Moe.τ).loc Cert.Moe.main_arg14) = m ((c.tc : Thread Cert.Moe.nD Cert.Moe.τ).loc Cert.Moe.main_arg14))
      ∧ r.2.sem = fun _ => 0)

def quiescent_MoeIdeal [hMoeIdeal : Cert.MoeIdeal.Facts] [hPre_routing_tables : Cert.Pre_routing_tables.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10)
      ∧ r.2.mem ((c.tc : Thread Cert.MoeIdeal.nD Cert.MoeIdeal.τ).loc Cert.MoeIdeal.main_arg11) = m ((c.tc : Thread Cert.MoeIdeal.nD Cert.MoeIdeal.τ).loc Cert.MoeIdeal.main_arg11)
      ∧ r.2.mem ((c.tc : Thread Cert.MoeIdeal.nD Cert.MoeIdeal.τ).loc Cert.MoeIdeal.main_arg12) = m ((c.tc : Thread Cert.MoeIdeal.nD Cert.MoeIdeal.τ).loc Cert.MoeIdeal.main_arg12)
      ∧ r.2.mem ((c.tc : Thread Cert.MoeIdeal.nD Cert.MoeIdeal.τ).loc Cert.MoeIdeal.main_arg13) = m ((c.tc : Thread Cert.MoeIdeal.nD Cert.MoeIdeal.τ).loc Cert.MoeIdeal.main_arg13)
      ∧ r.2.mem ((c.tc : Thread Cert.MoeIdeal.nD Cert.MoeIdeal.τ).loc Cert.MoeIdeal.main_arg14) = m ((c.tc : Thread Cert.MoeIdeal.nD Cert.MoeIdeal.τ).loc Cert.MoeIdeal.main_arg14))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9)
      ∧ r.2.mem ((c.tc : Thread Cert.MoeRefIdeal.nD Cert.MoeRefIdeal.τ).loc Cert.MoeRefIdeal.main_arg10) = m ((c.tc : Thread Cert.MoeRefIdeal.nD Cert.MoeRefIdeal.τ).loc Cert.MoeRefIdeal.main_arg10)
      ∧ r.2.mem ((c.tc : Thread Cert.MoeRefIdeal.nD Cert.MoeRefIdeal.τ).loc Cert.MoeRefIdeal.main_arg11) = m ((c.tc : Thread Cert.MoeRefIdeal.nD Cert.MoeRefIdeal.τ).loc Cert.MoeRefIdeal.main_arg11)
      ∧ r.2.mem ((c.tc : Thread Cert.MoeRefIdeal.nD Cert.MoeRefIdeal.τ).loc Cert.MoeRefIdeal.main_arg12) = m ((c.tc : Thread Cert.MoeRefIdeal.nD Cert.MoeRefIdeal.τ).loc Cert.MoeRefIdeal.main_arg12)
      ∧ r.2.mem ((c.tc : Thread Cert.MoeRefIdeal.nD Cert.MoeRefIdeal.τ).loc Cert.MoeRefIdeal.main_arg13) = m ((c.tc : Thread Cert.MoeRefIdeal.nD Cert.MoeRefIdeal.τ).loc Cert.MoeRefIdeal.main_arg13)
      ∧ r.2.mem ((c.tc : Thread Cert.MoeRefIdeal.nD Cert.MoeRefIdeal.τ).loc Cert.MoeRefIdeal.main_arg14) = m ((c.tc : Thread Cert.MoeRefIdeal.nD Cert.MoeRefIdeal.τ).loc Cert.MoeRefIdeal.main_arg14))
      ∧ r.2.sem = fun _ => 0)

def quiescent_MoeRefIdeal_pre_routing_tables [hMoeRefIdeal : Cert.MoeRefIdeal.Facts] [hPre_routing_tables : Cert.Pre_routing_tables.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_routing_tables m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9)
      ∧ r.2.mem ((c.tc : Thread Cert.MoeRefIdeal.nD Cert.MoeRefIdeal.τ).loc Cert.MoeRefIdeal.main_arg10) = m ((c.tc : Thread Cert.MoeRefIdeal.nD Cert.MoeRefIdeal.τ).loc Cert.MoeRefIdeal.main_arg10)
      ∧ r.2.mem ((c.tc : Thread Cert.MoeRefIdeal.nD Cert.MoeRefIdeal.τ).loc Cert.MoeRefIdeal.main_arg11) = m ((c.tc : Thread Cert.MoeRefIdeal.nD Cert.MoeRefIdeal.τ).loc Cert.MoeRefIdeal.main_arg11)
      ∧ r.2.mem ((c.tc : Thread Cert.MoeRefIdeal.nD Cert.MoeRefIdeal.τ).loc Cert.MoeRefIdeal.main_arg12) = m ((c.tc : Thread Cert.MoeRefIdeal.nD Cert.MoeRefIdeal.τ).loc Cert.MoeRefIdeal.main_arg12)
      ∧ r.2.mem ((c.tc : Thread Cert.MoeRefIdeal.nD Cert.MoeRefIdeal.τ).loc Cert.MoeRefIdeal.main_arg13) = m ((c.tc : Thread Cert.MoeRefIdeal.nD Cert.MoeRefIdeal.τ).loc Cert.MoeRefIdeal.main_arg13)
      ∧ r.2.mem ((c.tc : Thread Cert.MoeRefIdeal.nD Cert.MoeRefIdeal.τ).loc Cert.MoeRefIdeal.main_arg14) = m ((c.tc : Thread Cert.MoeRefIdeal.nD Cert.MoeRefIdeal.τ).loc Cert.MoeRefIdeal.main_arg14))
      ∧ r.2.sem = fun _ => 0)

def preserves_InProj_InProjIdeal : Prop :=
  True

def algebraic_InProjIdeal_InProjRefIdeal_pre_slots_in_pool [hInProjIdeal : Cert.InProjIdeal.Facts] [hInProjRefIdeal : Cert.InProjRefIdeal.Facts] [hPre_slots_in_pool : Cert.Pre_slots_in_pool.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_slots_in_pool m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)) (v2 : (c : Dev Cert.InProjIdeal.nD) → Buf (Elt Ideal) ((c.tc : Thread Cert.InProjIdeal.nD Cert.InProjIdeal.τ).loc Cert.InProjIdeal.main_v7_2)) (v3 : (c : Dev Cert.InProjIdeal.nD) → Buf (Elt Ideal) ((c.tc : Thread Cert.InProjIdeal.nD Cert.InProjIdeal.τ).loc Cert.InProjIdeal.main_v7_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_v7_2) = v2 c
          ∧ r.2.mem ((c.tc : Thread Cert.InProjIdeal.nD Cert.InProjIdeal.τ).loc Cert.InProjIdeal.main_v7_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v46) = v0 c
          ∧ r.2.mem ((c.tc : Thread Cert.InProjRefIdeal.nD Cert.InProjRefIdeal.τ).loc Cert.InProjRefIdeal.main_v47) = v1 c
          ∧ r.2.mem ((c.tc : Thread Cert.InProjRefIdeal.nD Cert.InProjRefIdeal.τ).loc Cert.InProjRefIdeal.main_v23) = v2 c
          ∧ r.2.mem ((c.tc : Thread Cert.InProjRefIdeal.nD Cert.InProjRefIdeal.τ).loc Cert.InProjRefIdeal.main_v49) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def preserves_Moe_MoeIdeal : Prop :=
  True

def algebraic_MoeIdeal_MoeRefIdeal [hMoeIdeal : Cert.MoeIdeal.Facts] [hMoeRefIdeal : Cert.MoeRefIdeal.Facts] [hPre_routing_tables : Cert.Pre_routing_tables.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)
      ∧ m' ((c.tc : Thread Cert.MoeRefIdeal.nD Cert.MoeRefIdeal.τ).loc Cert.MoeRefIdeal.main_arg10) = m ((c.tc : Thread Cert.MoeIdeal.nD Cert.MoeIdeal.τ).loc Cert.MoeIdeal.main_arg10)
      ∧ m' ((c.tc : Thread Cert.MoeRefIdeal.nD Cert.MoeRefIdeal.τ).loc Cert.MoeRefIdeal.main_arg11) = m ((c.tc : Thread Cert.MoeIdeal.nD Cert.MoeIdeal.τ).loc Cert.MoeIdeal.main_arg11)
      ∧ m' ((c.tc : Thread Cert.MoeRefIdeal.nD Cert.MoeRefIdeal.τ).loc Cert.MoeRefIdeal.main_arg12) = m ((c.tc : Thread Cert.MoeIdeal.nD Cert.MoeIdeal.τ).loc Cert.MoeIdeal.main_arg12)
      ∧ m' ((c.tc : Thread Cert.MoeRefIdeal.nD Cert.MoeRefIdeal.τ).loc Cert.MoeRefIdeal.main_arg13) = m ((c.tc : Thread Cert.MoeIdeal.nD Cert.MoeIdeal.τ).loc Cert.MoeIdeal.main_arg13)
      ∧ m' ((c.tc : Thread Cert.MoeRefIdeal.nD Cert.MoeRefIdeal.τ).loc Cert.MoeRefIdeal.main_arg14) = m ((c.tc : Thread Cert.MoeIdeal.nD Cert.MoeIdeal.τ).loc Cert.MoeIdeal.main_arg14)) →
    ∃ (v0 : (c : Dev Cert.MoeIdeal.nD) → Buf (Elt Ideal) ((c.tc : Thread Cert.MoeIdeal.nD Cert.MoeIdeal.τ).loc Cert.MoeIdeal.main_v0_0)) (v1 : (c : Dev Cert.MoeIdeal.nD) → Buf (Elt Ideal) ((c.tc : Thread Cert.MoeIdeal.nD Cert.MoeIdeal.τ).loc Cert.MoeIdeal.main_v0_1)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0_0) = v0 c
          ∧ r.2.mem ((c.tc : Thread Cert.MoeIdeal.nD Cert.MoeIdeal.τ).loc Cert.MoeIdeal.main_v0_1) = v1 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
          ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10)
          ∧ r.2.mem ((c.tc : Thread Cert.MoeIdeal.nD Cert.MoeIdeal.τ).loc Cert.MoeIdeal.main_arg11) = m ((c.tc : Thread Cert.MoeIdeal.nD Cert.MoeIdeal.τ).loc Cert.MoeIdeal.main_arg11)
          ∧ r.2.mem ((c.tc : Thread Cert.MoeIdeal.nD Cert.MoeIdeal.τ).loc Cert.MoeIdeal.main_arg12) = m ((c.tc : Thread Cert.MoeIdeal.nD Cert.MoeIdeal.τ).loc Cert.MoeIdeal.main_arg12)
          ∧ r.2.mem ((c.tc : Thread Cert.MoeIdeal.nD Cert.MoeIdeal.τ).loc Cert.MoeIdeal.main_arg13) = m ((c.tc : Thread Cert.MoeIdeal.nD Cert.MoeIdeal.τ).loc Cert.MoeIdeal.main_arg13)
          ∧ r.2.mem ((c.tc : Thread Cert.MoeIdeal.nD Cert.MoeIdeal.τ).loc Cert.MoeIdeal.main_arg14) = m ((c.tc : Thread Cert.MoeIdeal.nD Cert.MoeIdeal.τ).loc Cert.MoeIdeal.main_arg14))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v78) = v0 c
          ∧ r.2.mem ((c.tc : Thread Cert.MoeRefIdeal.nD Cert.MoeRefIdeal.τ).loc Cert.MoeRefIdeal.main_v76) = v1 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9)
          ∧ r.2.mem ((c.tc : Thread Cert.MoeRefIdeal.nD Cert.MoeRefIdeal.τ).loc Cert.MoeRefIdeal.main_arg10) = m' ((c.tc : Thread Cert.MoeRefIdeal.nD Cert.MoeRefIdeal.τ).loc Cert.MoeRefIdeal.main_arg10)
          ∧ r.2.mem ((c.tc : Thread Cert.MoeRefIdeal.nD Cert.MoeRefIdeal.τ).loc Cert.MoeRefIdeal.main_arg11) = m' ((c.tc : Thread Cert.MoeRefIdeal.nD Cert.MoeRefIdeal.τ).loc Cert.MoeRefIdeal.main_arg11)
          ∧ r.2.mem ((c.tc : Thread Cert.MoeRefIdeal.nD Cert.MoeRefIdeal.τ).loc Cert.MoeRefIdeal.main_arg12) = m' ((c.tc : Thread Cert.MoeRefIdeal.nD Cert.MoeRefIdeal.τ).loc Cert.MoeRefIdeal.main_arg12)
          ∧ r.2.mem ((c.tc : Thread Cert.MoeRefIdeal.nD Cert.MoeRefIdeal.τ).loc Cert.MoeRefIdeal.main_arg13) = m' ((c.tc : Thread Cert.MoeRefIdeal.nD Cert.MoeRefIdeal.τ).loc Cert.MoeRefIdeal.main_arg13)
          ∧ r.2.mem ((c.tc : Thread Cert.MoeRefIdeal.nD Cert.MoeRefIdeal.τ).loc Cert.MoeRefIdeal.main_arg14) = m' ((c.tc : Thread Cert.MoeRefIdeal.nD Cert.MoeRefIdeal.τ).loc Cert.MoeRefIdeal.main_arg14))

def Claim : Prop :=
  ∃ (hInProj : Cert.InProj.Facts) (hInProjIdeal : Cert.InProjIdeal.Facts) (hInProjRefIdeal : Cert.InProjRefIdeal.Facts) (hMoe : Cert.Moe.Facts) (hMoeIdeal : Cert.MoeIdeal.Facts) (hMoeRefIdeal : Cert.MoeRefIdeal.Facts) (hPre_slots_in_pool : Cert.Pre_slots_in_pool.Facts) (hPre_routing_tables : Cert.Pre_routing_tables.Facts),
    quiescent_InProj (hInProj := hInProj)
    ∧ quiescent_InProjIdeal (hInProjIdeal := hInProjIdeal)
    ∧ quiescent_InProjIdeal_pre_slots_in_pool (hInProjIdeal := hInProjIdeal) (hPre_slots_in_pool := hPre_slots_in_pool)
    ∧ quiescent_InProjRefIdeal (hInProjRefIdeal := hInProjRefIdeal)
    ∧ quiescent_InProjRefIdeal_pre_slots_in_pool (hInProjRefIdeal := hInProjRefIdeal) (hPre_slots_in_pool := hPre_slots_in_pool)
    ∧ quiescent_Moe (hMoe := hMoe) (hPre_routing_tables := hPre_routing_tables)
    ∧ quiescent_MoeIdeal (hMoeIdeal := hMoeIdeal) (hPre_routing_tables := hPre_routing_tables)
    ∧ quiescent_MoeRefIdeal (hMoeRefIdeal := hMoeRefIdeal)
    ∧ quiescent_MoeRefIdeal_pre_routing_tables (hMoeRefIdeal := hMoeRefIdeal) (hPre_routing_tables := hPre_routing_tables)
    ∧ preserves_InProj_InProjIdeal
    ∧ algebraic_InProjIdeal_InProjRefIdeal_pre_slots_in_pool (hInProjIdeal := hInProjIdeal) (hInProjRefIdeal := hInProjRefIdeal) (hPre_slots_in_pool := hPre_slots_in_pool)
    ∧ preserves_Moe_MoeIdeal
    ∧ algebraic_MoeIdeal_MoeRefIdeal (hMoeIdeal := hMoeIdeal) (hMoeRefIdeal := hMoeRefIdeal) (hPre_routing_tables := hPre_routing_tables)
-- ==== Pre_routing_tables.lean ====
abbrev S16 : Shape := ⟨1, ![16]⟩
abbrev S1 : Shape := ⟨1, ![1]⟩
abbrev S64x4096 : Shape := ⟨2, ![64, 4096]⟩
abbrev S1x4096 : Shape := ⟨2, ![1, 4096]⟩
abbrev S16x4096x3584 : Shape := ⟨3, ![16, 4096, 3584]⟩
abbrev S16x1x3584 : Shape := ⟨3, ![16, 1, 3584]⟩
abbrev S16x3584x4096 : Shape := ⟨3, ![16, 3584, 4096]⟩
abbrev S16x1x4096 : Shape := ⟨3, ![16, 1, 4096]⟩
abbrev S64x2 : Shape := ⟨2, ![64, 2]⟩
abbrev S128 : Shape := ⟨1, ![128]⟩
abbrev S16x1 : Shape := ⟨2, ![16, 1]⟩
abbrev S1x16 : Shape := ⟨2, ![1, 16]⟩
abbrev S_ : Shape := ⟨0, ![]⟩
abbrev S16x16 : Shape := ⟨2, ![16, 16]⟩
abbrev S1x1 : Shape := ⟨2, ![1, 1]⟩
abbrev S64x2x1 : Shape := ⟨3, ![64, 2, 1]⟩
abbrev S1x1x128 : Shape := ⟨3, ![1, 1, 128]⟩
abbrev S64x2x128 : Shape := ⟨3, ![64, 2, 128]⟩
abbrev S64 : Shape := ⟨1, ![64]⟩
abbrev S64x1x1 : Shape := ⟨3, ![64, 1, 1]⟩
abbrev S64x1x128 : Shape := ⟨3, ![64, 1, 128]⟩
abbrev S16x16x1x1x1 : Shape := ⟨5, ![16, 16, 1, 1, 1]⟩
abbrev S1x1x64x2x128 : Shape := ⟨5, ![1, 1, 64, 2, 128]⟩
abbrev S16x16x64x2x128 : Shape := ⟨5, ![16, 16, 64, 2, 128]⟩

class Facts : Prop where
  bcast_S16_S16x1_0 : S16.BroadcastsInDim S16x1 (![0] : Fin 1 → Fin S16x1.rank)
  bcast_S16_S1x16_1 : S16.BroadcastsInDim S1x16 (![1] : Fin 1 → Fin S1x16.rank)
  bcast_S_S16 : S_.BroadcastsInDim S16 (![] : Fin 0 → Fin S16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x16_S16_d0 : S16x16.ReducesTo [0] S16
  h_S_ : 0 < S_.numel
  bcast_S1x1_S1x16_0_1 : S1x1.BroadcastsInDim S1x16 (![0, 1] : Fin 2 → Fin S1x16.rank)
  transposes_S16x16_S16x16_1_0 : S16x16.Transposes [1, 0] S16x16
  bcast_S_S64x2 : S_.BroadcastsInDim S64x2 (![] : Fin 0 → Fin S64x2.rank)
  bcast_S64x2_S64x2x1_0_1 : S64x2.BroadcastsInDim S64x2x1 (![0, 1] : Fin 2 → Fin S64x2x1.rank)
  bcast_S128_S1x1x128_2 : S128.BroadcastsInDim S1x1x128 (![2] : Fin 1 → Fin S1x1x128.rank)
  bcast_S64x2x1_S64x2x128_0_1_2 : S64x2x1.BroadcastsInDim S64x2x128 (![0, 1, 2] : Fin 3 → Fin S64x2x128.rank)
  bcast_S1x1x128_S64x2x128_0_1_2 : S1x1x128.BroadcastsInDim S64x2x128 (![0, 1, 2] : Fin 3 → Fin S64x2x128.rank)
  bcast_S64_S64x1x1_0 : S64.BroadcastsInDim S64x1x1 (![0] : Fin 1 → Fin S64x1x1.rank)
  bcast_S1x1x128_S64x1x128_0_1_2 : S1x1x128.BroadcastsInDim S64x1x128 (![0, 1, 2] : Fin 3 → Fin S64x1x128.rank)
  bcast_S64x1x1_S64x1x128_0_1_2 : S64x1x1.BroadcastsInDim S64x1x128 (![0, 1, 2] : Fin 3 → Fin S64x1x128.rank)
  bcast_S64x1x128_S64x2x128_0_1_2 : S64x1x128.BroadcastsInDim S64x2x128 (![0, 1, 2] : Fin 3 → Fin S64x2x128.rank)
  bcast_S16x16_S16x16x1x1x1_0_1 : S16x16.BroadcastsInDim S16x16x1x1x1 (![0, 1] : Fin 2 → Fin S16x16x1x1x1.rank)
  bcast_S64x2x128_S1x1x64x2x128_2_3_4 : S64x2x128.BroadcastsInDim S1x1x64x2x128 (![2, 3, 4] : Fin 3 → Fin S1x1x64x2x128.rank)
  bcast_S16x16x1x1x1_S16x16x64x2x128_0_1_2_3_4 : S16x16x1x1x1.BroadcastsInDim S16x16x64x2x128 (![0, 1, 2, 3, 4] : Fin 5 → Fin S16x16x64x2x128.rank)
  bcast_S1x1x64x2x128_S16x16x64x2x128_0_1_2_3_4 : S1x1x64x2x128.BroadcastsInDim S16x16x64x2x128 (![0, 1, 2, 3, 4] : Fin 5 → Fin S16x16x64x2x128.rank)

variable [Facts]

def fn_part4 {F : FTy → Type} [FloatOps F] (main_v84 : IVec S16x16x1x1x1 1) (main_v89 : IVec S1x1x64x2x128 1) : IVec S16x16x64x2x128 1 :=
  let main_v90 : IVec S16x16x64x2x128 1 := broadcastInDim S16x16x64x2x128 ![0, 1, 2, 3, 4] bcast_S16x16x1x1x1_S16x16x64x2x128_0_1_2_3_4 main_v84
  let main_v91 : IVec S16x16x64x2x128 1 := broadcastInDim S16x16x64x2x128 ![0, 1, 2, 3, 4] bcast_S1x1x64x2x128_S16x16x64x2x128_0_1_2_3_4 main_v89
  let main_v92 : IVec S16x16x64x2x128 1 := andi main_v90 main_v91
  main_v92

def fn_part3 {F : FTy → Type} [FloatOps F] (main_arg12 : IVec S64x2 32) (main_arg13 : FVec F S64x2 .f32) (main_arg14 : IVec S128 32) (main_v62 : IVec S16x16 1) (main_v64 : IVec S64x2 1) (main_v66 : IVec S64x2 1) : IVec S16x16x64x2x128 1 :=
  let main_v67 : IVec S64x2 1 := andi main_v64 main_v66
  let main_cst : FVec F S_ .f32 := constant S_ .f32 0x00000000#32
  let main_v68 : FVec F S64x2 .f32 := broadcastInDim S64x2 ![] bcast_S_S64x2 main_cst
  let main_v69 : IVec S64x2 1 := cmpf .oge main_arg13 main_v68
  let main_v70 : IVec S64x2x1 32 := broadcastInDim S64x2x1 ![0, 1] bcast_S64x2_S64x2x1_0_1 main_arg12
  let main_v71 : IVec S128 32 := iotaInDim S128 32 0
  let main_v72 : IVec S1x1x128 32 := broadcastInDim S1x1x128 ![2] bcast_S128_S1x1x128_2 main_v71
  let main_v73 : IVec S64x2x128 32 := broadcastInDim S64x2x128 ![0, 1, 2] bcast_S64x2x1_S64x2x128_0_1_2 main_v70
  let main_v74 : IVec S64x2x128 32 := broadcastInDim S64x2x128 ![0, 1, 2] bcast_S1x1x128_S64x2x128_0_1_2 main_v72
  let main_v75 : IVec S64x2x128 1 := cmpi .ne main_v73 main_v74
  let main_v76 : IVec S64 32 := iotaInDim S64 32 0
  let main_v77 : IVec S64x1x1 32 := broadcastInDim S64x1x1 ![0] bcast_S64_S64x1x1_0 main_v76
  let main_v78 : IVec S1x1x128 32 := broadcastInDim S1x1x128 ![2] bcast_S128_S1x1x128_2 main_arg14
  let main_v79 : IVec S64x1x128 32 := broadcastInDim S64x1x128 ![0, 1, 2] bcast_S1x1x128_S64x1x128_0_1_2 main_v78
  let main_v80 : IVec S64x1x128 32 := broadcastInDim S64x1x128 ![0, 1, 2] bcast_S64x1x1_S64x1x128_0_1_2 main_v77
  let main_v81 : IVec S64x1x128 1 := cmpi .eq main_v79 main_v80
  let main_v82 : IVec S64x2x128 1 := broadcastInDim S64x2x128 ![0, 1, 2] bcast_S64x1x128_S64x2x128_0_1_2 main_v81
  let main_v83 : IVec S64x2x128 1 := ori main_v75 main_v82
  let main_v84 : IVec S16x16x1x1x1 1 := broadcastInDim S16x16x1x1x1 ![0, 1] bcast_S16x16_S16x16x1x1x1_0_1 main_v62
  let main_v85 : IVec S64x2 1 := andi main_v67 main_v69
  let main_v86 : IVec S64x2x1 1 := broadcastInDim S64x2x1 ![0, 1] bcast_S64x2_S64x2x1_0_1 main_v85
  let main_v87 : IVec S64x2x128 1 := broadcastInDim S64x2x128 ![0, 1, 2] bcast_S64x2x1_S64x2x128_0_1_2 main_v86
  let main_v88 : IVec S64x2x128 1 := andi main_v87 main_v83
  let main_v89 : IVec S1x1x64x2x128 1 := broadcastInDim S1x1x64x2x128 ![2, 3, 4] bcast_S64x2x128_S1x1x64x2x128_2_3_4 main_v88
  fn_part4 (F := F) main_v84 main_v89

def fn_part2 {F : FTy → Type} [FloatOps F] (main_arg12 : IVec S64x2 32) (main_arg13 : FVec F S64x2 .f32) (main_arg14 : IVec S128 32) (main_v2 : IVec S1x16 32) (main_v7 : IVec S16 1) (main_v17 : IVec S16 1) (main_v19 : IVec S16 1) (main_v38 : IVec S16x16 1) (main_v43 : IVec S16x16 1) (main_v44 : IVec S16x16 32) : IVec S16x16x64x2x128 1 :=
  let main_v45 : IVec S16x16 32 := broadcastInDim S16x16 ![0, 1] bcast_S1x16_S16x16_0_1 main_v2
  let main_v46 : IVec S16x16 1 := cmpi .eq main_v44 main_v45
  let main_v47 : IVec S16x1 1 := broadcastInDim S16x1 ![0] bcast_S16_S16x1_0 main_v17
  let main_v48 : IVec S16x16 1 := broadcastInDim S16x16 ![0, 1] bcast_S16x1_S16x16_0_1 main_v47
  let main_v49 : IVec S16x16 1 := ori main_v46 main_v48
  let main_v50 : IVec S1x16 1 := broadcastInDim S1x16 ![1] bcast_S16_S1x16_1 main_v17
  let main_v51 : IVec S16x16 1 := broadcastInDim S16x16 ![0, 1] bcast_S1x16_S16x16_0_1 main_v50
  let main_v52 : IVec S16x16 1 := ori main_v49 main_v51
  let main_v53 : IVec S16x16 1 := ori main_v52 main_v43
  let main_v54 : IVec S16x16 1 := (transpose S16x16 [1, 0] · transposes_S16x16_S16x16_1_0) main_v43
  let main_v55 : IVec S16x16 1 := ori main_v53 main_v54
  let main_v56 : IVec S16x16 1 := andi main_v38 main_v55
  let main_v57 : IVec S1x16 1 := broadcastInDim S1x16 ![1] bcast_S16_S1x16_1 main_v7
  let main_v58 : IVec S16x16 1 := broadcastInDim S16x16 ![0, 1] bcast_S1x16_S16x16_0_1 main_v57
  let main_v59 : IVec S16x16 1 := andi main_v56 main_v58
  let main_v60 : IVec S1x16 1 := broadcastInDim S1x16 ![1] bcast_S16_S1x16_1 main_v19
  let main_v61 : IVec S16x16 1 := broadcastInDim S16x16 ![0, 1] bcast_S1x16_S16x16_0_1 main_v60
  let main_v62 : IVec S16x16 1 := andi main_v59 main_v61
  let main_c_2 : IVec S_ 32 := constantI S_ 32 0#32
  let main_v63 : IVec S64x2 32 := broadcastInDim S64x2 ![] bcast_S_S64x2 main_c_2
  let main_v64 : IVec S64x2 1 := cmpi .sge main_arg12 main_v63
  let main_c_3 : IVec S_ 32 := constantI S_ 32 128#32
  let main_v65 : IVec S64x2 32 := broadcastInDim S64x2 ![] bcast_S_S64x2 main_c_3
  let main_v66 : IVec S64x2 1 := cmpi .slt main_arg12 main_v65
  fn_part3 (F := F) main_arg12 main_arg13 main_arg14 main_v62 main_v64 main_v66

def fn_part1 {F : FTy → Type} [FloatOps F] (main_arg0 : IVec S16 32) (main_arg1 : IVec S1 32) (main_arg2 : IVec S16 32) (main_arg3 : IVec S16 32) (main_arg12 : IVec S64x2 32) (main_arg13 : FVec F S64x2 .f32) (main_arg14 : IVec S128 32) (main_v1 : IVec S16x1 32) (main_v2 : IVec S1x16 32) (main_v7 : IVec S16 1) (main_v17 : IVec S16 1) (main_v19 : IVec S16 1) (main_v20 : IVec S16x16 32) : IVec S16x16x64x2x128 1 :=
  let main_v21 : IVec S16x16 32 := broadcastInDim S16x16 ![0, 1] bcast_S1x16_S16x16_0_1 main_v2
  let main_v22 : IVec S16x16 1 := cmpi .eq main_v20 main_v21
  let main_v23 : IVec S1x1 32 := broadcastInDim S1x1 ![1] bcast_S1_S1x1_1 main_arg1
  let main_v24 : IVec S16x1 32 := broadcastInDim S16x1 ![0, 1] bcast_S1x1_S16x1_0_1 main_v23
  let main_v25 : IVec S16x1 1 := cmpi .sge main_v1 main_v24
  let main_v26 : IVec S16x16 1 := broadcastInDim S16x16 ![0, 1] bcast_S16x1_S16x16_0_1 main_v25
  let main_v27 : IVec S16x16 1 := ori main_v22 main_v26
  let main_v28 : IVec S1x1 32 := broadcastInDim S1x1 ![1] bcast_S1_S1x1_1 main_arg1
  let main_v29 : IVec S1x16 32 := broadcastInDim S1x16 ![0, 1] bcast_S1x1_S1x16_0_1 main_v28
  let main_v30 : IVec S1x16 1 := cmpi .sge main_v2 main_v29
  let main_v31 : IVec S16x16 1 := broadcastInDim S16x16 ![0, 1] bcast_S1x16_S16x16_0_1 main_v30
  let main_v32 : IVec S16x16 1 := ori main_v27 main_v31
  let main_v33 : IVec S16x1 32 := broadcastInDim S16x1 ![0] bcast_S16_S16x1_0 main_arg0
  let main_v34 : IVec S1x16 32 := broadcastInDim S1x16 ![1] bcast_S16_S1x16_1 main_arg0
  let main_v35 : IVec S16x16 32 := broadcastInDim S16x16 ![0, 1] bcast_S16x1_S16x16_0_1 main_v33
  let main_v36 : IVec S16x16 32 := broadcastInDim S16x16 ![0, 1] bcast_S1x16_S16x16_0_1 main_v34
  let main_v37 : IVec S16x16 1 := cmpi .ne main_v35 main_v36
  let main_v38 : IVec S16x16 1 := ori main_v32 main_v37
  let main_v39 : IVec S16x1 32 := broadcastInDim S16x1 ![0] bcast_S16_S16x1_0 main_arg3
  let main_v40 : IVec S1x16 32 := broadcastInDim S1x16 ![1] bcast_S16_S1x16_1 main_arg2
  let main_v41 : IVec S16x16 32 := broadcastInDim S16x16 ![0, 1] bcast_S16x1_S16x16_0_1 main_v39
  let main_v42 : IVec S16x16 32 := broadcastInDim S16x16 ![0, 1] bcast_S1x16_S16x16_0_1 main_v40
  let main_v43 : IVec S16x16 1 := cmpi .sle main_v41 main_v42
  let main_v44 : IVec S16x16 32 := broadcastInDim S16x16 ![0, 1] bcast_S16x1_S16x16_0_1 main_v1
  fn_part2 (F := F) main_arg12 main_arg13 main_arg14 main_v2 main_v7 main_v17 main_v19 main_v38 main_v43 main_v44

def fn {F : FTy → Type} [FloatOps F] (main_arg0 : IVec S16 32) (main_arg1 : IVec S1 32) (main_arg2 : IVec S16 32) (main_arg3 : IVec S16 32) (main_arg4 : FVec F S64x4096 .f32) (main_arg5 : FVec F S1x4096 .f32) (main_arg6 : IVec S16x4096x3584 8) (main_arg7 : FVec F S16x1x3584 .f32) (main_arg8 : IVec S16x4096x3584 8) (main_arg9 : FVec F S16x1x3584 .f32) (main_arg10 : IVec S16x3584x4096 8) (main_arg11 : FVec F S16x1x4096 .f32) (main_arg12 : IVec S64x2 32) (main_arg13 : FVec F S64x2 .f32) (main_arg14 : IVec S128 32) : IVec S16x16x64x2x128 1 :=
  let main_v0 : IVec S16 32 := iotaInDim S16 32 0
  let main_v1 : IVec S16x1 32 := broadcastInDim S16x1 ![0] bcast_S16_S16x1_0 main_v0
  let main_v2 : IVec S1x16 32 := broadcastInDim S1x16 ![1] bcast_S16_S1x16_1 main_v0
  let main_c : IVec S_ 32 := constantI S_ 32 0#32
  let main_v3 : IVec S16 32 := broadcastInDim S16 ![] bcast_S_S16 main_c
  let main_v4 : IVec S16 1 := cmpi .sge main_arg0 main_v3
  let main_c_0 : IVec S_ 32 := constantI S_ 32 16#32
  let main_v5 : IVec S16 32 := broadcastInDim S16 ![] bcast_S_S16 main_c_0
  let main_v6 : IVec S16 1 := cmpi .slt main_arg0 main_v5
  let main_v7 : IVec S16 1 := andi main_v4 main_v6
  let main_v8 : IVec S16x1 32 := broadcastInDim S16x1 ![0] bcast_S16_S16x1_0 main_arg0
  let main_v9 : IVec S16x16 32 := broadcastInDim S16x16 ![0, 1] bcast_S16x1_S16x16_0_1 main_v8
  let main_v10 : IVec S16x16 32 := broadcastInDim S16x16 ![0, 1] bcast_S1x16_S16x16_0_1 main_v2
  let main_v11 : IVec S16x16 1 := cmpi .eq main_v9 main_v10
  let main_v12 : IVec S1x1 32 := broadcastInDim S1x1 ![1] bcast_S1_S1x1_1 main_arg1
  let main_v13 : IVec S16x1 32 := broadcastInDim S16x1 ![0, 1] bcast_S1x1_S16x1_0_1 main_v12
  let main_v14 : IVec S16x1 1 := cmpi .slt main_v1 main_v13
  let main_v15 : IVec S16x16 1 := broadcastInDim S16x16 ![0, 1] bcast_S16x1_S16x16_0_1 main_v14
  let main_v16 : IVec S16x16 1 := andi main_v11 main_v15
  let main_v17 : IVec S16 1 := cmpi .sge main_arg2 main_arg3
  let main_c_1 : IVec S_ 1 := constantI S_ 1 0#1
  let main_v18 : IVec S16 1 := (fun x v => Host.reduce IntOp.ori x v reducesTo_S16x16_S16_d0 h_S_) main_v16 main_c_1
  let main_v19 : IVec S16 1 := ori main_v17 main_v18
  let main_v20 : IVec S16x16 32 := broadcastInDim S16x16 ![0, 1] bcast_S16x1_S16x16_0_1 main_v1
  fn_part1 (F := F) main_arg0 main_arg1 main_arg2 main_arg3 main_arg12 main_arg13 main_arg14 main_v1 main_v2 main_v7 main_v17 main_v19 main_v20
-- ==== Pre_slots_in_pool.lean ====
abbrev S64x1x4096 : Shape := ⟨3, ![64, 1, 4096]⟩
abbrev S4096 : Shape := ⟨1, ![4096]⟩
abbrev S4096x16384 : Shape := ⟨2, ![4096, 16384]⟩
abbrev S16384 : Shape := ⟨1, ![16384]⟩
abbrev S83x3x8192 : Shape := ⟨3, ![83, 3, 8192]⟩
abbrev S4x8192 : Shape := ⟨2, ![4, 8192]⟩
abbrev S8192 : Shape := ⟨1, ![8192]⟩
abbrev S8192x288 : Shape := ⟨2, ![8192, 288]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S64x1x4096 .bf16) (main_arg1 : FVec F S4096 .f32) (main_arg2 : IVec S4096x16384 8) (main_arg3 : FVec F S16384 .f32) (main_arg4 : FVec F S83x3x8192 .bf16) (main_arg5 : FVec F S4x8192 .f32) (main_arg6 : FVec F S8192 .f32) (main_arg7 : FVec F S8192x288 .f32) (main_arg8 : IVec S64 32) : IVec S64 1 :=
  let main_c : IVec S_ 32 := constantI S_ 32 0#32
  let main_v0 : IVec S64 32 := broadcastInDim S64 ![] bcast_S_S64 main_c
  let main_v1 : IVec S64 1 := cmpi .sge main_arg8 main_v0
  let main_c_0 : IVec S_ 32 := constantI S_ 32 83#32
  let main_v2 : IVec S64 32 := broadcastInDim S64 ![] bcast_S_S64 main_c_0
  let main_v3 : IVec S64 1 := cmpi .slt main_arg8 main_v2
  let main_v4 : IVec S64 1 := andi main_v1 main_v3
  main_v4
-- ==== InProj.lean ====
abbrev S64x1x4096 : Shape := ⟨3, ![64, 1, 4096]⟩
abbrev S4096 : Shape := ⟨1, ![4096]⟩
abbrev S4096x16384 : Shape := ⟨2, ![4096, 16384]⟩
abbrev S16384 : Shape := ⟨1, ![16384]⟩
abbrev S83x3x8192 : Shape := ⟨3, ![83, 3, 8192]⟩
abbrev S4x8192 : Shape := ⟨2, ![4, 8192]⟩
abbrev S8192 : Shape := ⟨1, ![8192]⟩
abbrev S8192x288 : Shape := ⟨2, ![8192, 288]⟩
abbrev S64 : Shape := ⟨1, ![64]⟩
abbrev S64x4096 : Shape := ⟨2, ![64, 4096]⟩
abbrev S1x4096 : Shape := ⟨2, ![1, 4096]⟩
abbrev S1x16384 : Shape := ⟨2, ![1, 16384]⟩
abbrev S3x83x8192 : Shape := ⟨3, ![3, 83, 8192]⟩
abbrev S1x8192 : Shape := ⟨2, ![1, 8192]⟩
abbrev S288x8192 : Shape := ⟨2, ![288, 8192]⟩
abbrev S64x1 : Shape := ⟨2, ![64, 1]⟩
abbrev S64x8192 : Shape := ⟨2, ![64, 8192]⟩
abbrev S288x64 : Shape := ⟨2, ![288, 64]⟩
abbrev S4096x512 : Shape := ⟨2, ![4096, 512]⟩
abbrev S1x512 : Shape := ⟨2, ![1, 512]⟩
abbrev S3x83x512 : Shape := ⟨3, ![3, 83, 512]⟩
abbrev S4x512 : Shape := ⟨2, ![4, 512]⟩
abbrev S288x512 : Shape := ⟨2, ![288, 512]⟩
abbrev S64x512 : Shape := ⟨2, ![64, 512]⟩
abbrev S64x83 : Shape := ⟨2, ![64, 83]⟩
abbrev S1x83x512 : Shape := ⟨3, ![1, 83, 512]⟩
abbrev S83x512 : Shape := ⟨2, ![83, 512]⟩

abbrev nBuf : Space → Nat
  | .hbm => 20
  | .vmem => 23
  | .smem => 0
  | _ => 0

abbrev bufTy : (tb : Table) → Fin (tcTables nBuf tb) → BufTy
  | .hbm, ⟨0, _⟩ => ⟨S64x1x4096, .bf16⟩
  | .hbm, ⟨1, _⟩ => ⟨S4096, .f32⟩
  | .hbm, ⟨2, _⟩ => ⟨S4096x16384, .i8⟩
  | .hbm, ⟨3, _⟩ => ⟨S16384, .f32⟩
  | .hbm, ⟨4, _⟩ => ⟨S83x3x8192, .bf16⟩
  | .hbm, ⟨5, _⟩ => ⟨S4x8192, .f32⟩
  | .hbm, ⟨6, _⟩ => ⟨S8192, .f32⟩
  | .hbm, ⟨7, _⟩ => ⟨S8192x288, .f32⟩
  | .hbm, ⟨8, _⟩ => ⟨S64, .i32⟩
  | .hbm, ⟨9, _⟩ => ⟨S64x4096, .bf16⟩
  | .hbm, ⟨10, _⟩ => ⟨S1x4096, .f32⟩
  | .hbm, ⟨11, _⟩ => ⟨S1x16384, .f32⟩
  | .hbm, ⟨12, _⟩ => ⟨S3x83x8192, .bf16⟩
  | .hbm, ⟨13, _⟩ => ⟨S1x8192, .f32⟩
  | .hbm, ⟨14, _⟩ => ⟨S288x8192, .f32⟩
  | .hbm, ⟨15, _⟩ => ⟨S64x1, .i32⟩
  | .hbm, ⟨16, _⟩ => ⟨S64x8192, .f32⟩
  | .hbm, ⟨17, _⟩ => ⟨S64x8192, .bf16⟩
  | .hbm, ⟨18, _⟩ => ⟨S64x8192, .f32⟩
  | .hbm, ⟨19, _⟩ => ⟨S288x64, .f32⟩
  | .local _ .vmem, ⟨0, _⟩ => ⟨S64x4096, .bf16⟩
  | .local _ .vmem, ⟨1, _⟩ => ⟨S1x4096, .f32⟩
  | .local _ .vmem, ⟨2, _⟩ => ⟨S4096x512, .i8⟩
  | .local _ .vmem, ⟨3, _⟩ => ⟨S4096x512, .i8⟩
  | .local _ .vmem, ⟨4, _⟩ => ⟨S1x512, .f32⟩
  | .local _ .vmem, ⟨5, _⟩ => ⟨S1x512, .f32⟩
  | .local _ .vmem, ⟨6, _⟩ => ⟨S3x83x512, .bf16⟩
  | .local _ .vmem, ⟨7, _⟩ => ⟨S3x83x512, .bf16⟩
  | .local _ .vmem, ⟨8, _⟩ => ⟨S4x512, .f32⟩
  | .local _ .vmem, ⟨9, _⟩ => ⟨S4x512, .f32⟩
  | .local _ .vmem, ⟨10, _⟩ => ⟨S1x512, .f32⟩
  | .local _ .vmem, ⟨11, _⟩ => ⟨S1x512, .f32⟩
  | .local _ .vmem, ⟨12, _⟩ => ⟨S288x512, .f32⟩
  | .local _ .vmem, ⟨13, _⟩ => ⟨S288x512, .f32⟩
  | .local _ .vmem, ⟨14, _⟩ => ⟨S64x1, .i32⟩
  | .local _ .vmem, ⟨15, _⟩ => ⟨S64x512, .f32⟩
  | .local _ .vmem, ⟨16, _⟩ => ⟨S64x512, .f32⟩
  | .local _ .vmem, ⟨17, _⟩ => ⟨S64x512, .bf16⟩
  | .local _ .vmem, ⟨18, _⟩ => ⟨S64x512, .bf16⟩
  | .local _ .vmem, ⟨19, _⟩ => ⟨S64x512, .f32⟩
  | .local _ .vmem, ⟨20, _⟩ => ⟨S64x512, .f32⟩
  | .local _ .vmem, ⟨21, _⟩ => ⟨S288x64, .f32⟩
  | .local _ .vmem, ⟨22, _⟩ => ⟨S64x4096, .bf16⟩
  | _, _ => ⟨S64x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c16_i32 : BitVec 32 := 16#32
  let v11 : BitVec 1 := Scalar.cmpi .slt arg0 c16_i32
  let v12 : BitVec 32 := Scalar.extui v11
  let c0_i32_6 : BitVec 32 := 0#32
  let v13 : BitVec 1 := Scalar.cmpi .ne v12 c0_i32_6
  v13

def k0_cond3 (i : grid0.Coords) : BitVec 1 :=
  let arg0 : BitVec 32 := BitVec.ofNat 32 (i 0).val
  let c16_i32_7 : BitVec 32 := 16#32
  let v14 : BitVec 1 := Scalar.cmpi .sge arg0 c16_i32_7
  let v15 : BitVec 32 := Scalar.extui v14
  let c0_i32_8 : BitVec 32 := 0#32
  let v16 : BitVec 1 := Scalar.cmpi .ne v15 c0_i32_8
  v16

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x83x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S288x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S288x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InProjRefIdeal.lean ====
abbrev S64x1x4096 : Shape := ⟨3, ![64, 1, 4096]⟩
abbrev S4096 : Shape := ⟨1, ![4096]⟩
abbrev S4096x16384 : Shape := ⟨2, ![4096, 16384]⟩
abbrev S16384 : Shape := ⟨1, ![16384]⟩
abbrev S83x3x8192 : Shape := ⟨3, ![83, 3, 8192]⟩
abbrev S4x8192 : Shape := ⟨2, ![4, 8192]⟩
abbrev S8192 : Shape := ⟨1, ![8192]⟩
abbrev S8192x288 : Shape := ⟨2, ![8192, 288]⟩
abbrev S64 : Shape := ⟨1, ![64]⟩
abbrev S64x4096 : Shape := ⟨2, ![64, 4096]⟩
abbrev S_ : Shape := ⟨0, ![]⟩
abbrev S64x1 : Shape := ⟨2, ![64, 1]⟩
abbrev S1x4096 : Shape := ⟨2, ![1, 4096]⟩
abbrev S64x16384 : Shape := ⟨2, ![64, 16384]⟩
abbrev S1x16384 : Shape := ⟨2, ![1, 16384]⟩
abbrev S64x8192 : Shape := ⟨2, ![64, 8192]⟩
abbrev S64x3x8192 : Shape := ⟨3, ![64, 3, 8192]⟩
abbrev S3x8192 : Shape := ⟨2, ![3, 8192]⟩
abbrev S1x3x8192 : Shape := ⟨3, ![1, 3, 8192]⟩
abbrev S1x8192 : Shape := ⟨2, ![1, 8192]⟩
abbrev S64x288 : Shape := ⟨2, ![64, 288]⟩
abbrev S288x64 : Shape := ⟨2, ![288, 64]⟩

abbrev nBuf : Space → Nat
  | .hbm => 73
  | .vmem => 0
  | .smem => 0
  | _ => 0

abbrev bufTy : (tb : Table) → Fin (tcTables nBuf tb) → BufTy
  | .hbm, ⟨0, _⟩ => ⟨S64x1x4096, .bf16⟩
  | .hbm, ⟨1, _⟩ => ⟨S4096, .f32⟩
  | .hbm, ⟨2, _⟩ => ⟨S4096x16384, .i8⟩
  | .hbm, ⟨3, _⟩ => ⟨S16384, .f32⟩
  | .hbm, ⟨4, _⟩ => ⟨S83x3x8192, .bf16⟩
  | .hbm, ⟨5, _⟩ => ⟨S4x8192, .f32⟩
  | .hbm, ⟨6, _⟩ => ⟨S8192, .f32⟩
  | .hbm, ⟨7, _⟩ => ⟨S8192x288, .f32⟩
  | .hbm, ⟨8, _⟩ => ⟨S64, .i32⟩
  | .hbm, ⟨9, _⟩ => ⟨S64x1x4096, .f32⟩
  | .hbm, ⟨10, _⟩ => ⟨S64x4096, .f32⟩
  | .hbm, ⟨11, _⟩ => ⟨S64x4096, .f32⟩
  | .hbm, ⟨12, _⟩ => ⟨S_, .f32⟩
  | .hbm, ⟨13, _⟩ => ⟨S64, .f32⟩
  | .hbm, ⟨14, _⟩ => ⟨S64x1, .f32⟩
  | .hbm, ⟨15, _⟩ => ⟨S_, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x1, .f32⟩
  | .hbm, ⟨22, _⟩ => ⟨S64x4096, .f32⟩
  | .hbm, ⟨23, _⟩ => ⟨S64x4096, .f32⟩
  | .hbm, ⟨24, _⟩ => ⟨S1x4096, .f32⟩
  | .hbm, ⟨25, _⟩ => ⟨S64x4096, .f32⟩
  | .hbm, ⟨26, _⟩ => ⟨S64x4096, .f32⟩
  | .hbm, ⟨27, _⟩ => ⟨S64x4096, .bf16⟩
  | .hbm, ⟨28, _⟩ => ⟨S4096x16384, .i32⟩
  | .hbm, ⟨29, _⟩ => ⟨S4096x16384, .bf16⟩
  | .hbm, ⟨30, _⟩ => ⟨S64x16384, .f32⟩
  | .hbm, ⟨31, _⟩ => ⟨S1x16384, .f32⟩
  | .hbm, ⟨32, _⟩ => ⟨S64x16384, .f32⟩
  | .hbm, ⟨33, _⟩ => ⟨S64x16384, .f32⟩
  | .hbm, ⟨34, _⟩ => ⟨S64x8192, .f32⟩
  | .hbm, ⟨35, _⟩ => ⟨S64x8192, .f32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S64x1, .i32⟩
  | .hbm, ⟨44, _⟩ => ⟨S64x3x8192, .bf16⟩
  | .hbm, ⟨45, _⟩ => ⟨S64x3x8192, .f32⟩
  | .hbm, ⟨46, _⟩ => ⟨S3x8192, .f32⟩
  | .hbm, ⟨47, _⟩ => ⟨S1x3x8192, .f32⟩
  | .hbm, ⟨48, _⟩ => ⟨S64x3x8192, .f32⟩
  | .hbm, ⟨49, _⟩ => ⟨S64x3x8192, .f32⟩
  | .hbm, ⟨50, _⟩ => ⟨S_, .f32⟩
  | .hbm, ⟨51, _⟩ => ⟨S64x8192, .f32⟩
  | .hbm, ⟨52, _⟩ => ⟨S1x8192, .f32⟩
  | .hbm, ⟨53, _⟩ => ⟨S8192, .f32⟩
  | .hbm, ⟨54, _⟩ => ⟨S1x8192, .f32⟩
  | .hbm, ⟨55, _⟩ => ⟨S64x8192, .f32⟩
  | .hbm, ⟨56, _⟩ => ⟨S64x8192, .f32⟩
  | .hbm, ⟨57, _⟩ => ⟨S64x8192, .f32⟩
  | .hbm, ⟨58, _⟩ => ⟨S1x8192, .f32⟩
  | .hbm, ⟨59, _⟩ => ⟨S64x8192, .f32⟩
  | .hbm, ⟨60, _⟩ => ⟨S64x8192, .f32⟩
  | .hbm, ⟨61, _⟩ => ⟨S64x8192, .f32⟩
  | .hbm, ⟨62, _⟩ => ⟨S64x8192, .f32⟩
  | .hbm, ⟨63, _⟩ => ⟨S_, .f32⟩
  | .hbm, ⟨64, _⟩ => ⟨S64x8192, .f32⟩
  | .hbm, ⟨65, _⟩ => ⟨S64x8192, .f32⟩
  | .hbm, ⟨66, _⟩ => ⟨S_, .f32⟩
  | .hbm, ⟨67, _⟩ => ⟨S64x8192, .f32⟩
  | .hbm, ⟨68, _⟩ => ⟨S64x8192, .f32⟩
  | .hbm, ⟨69, _⟩ => ⟨S64x8192, .f32⟩
  | .hbm, ⟨70, _⟩ => ⟨S64x8192, .bf16⟩
  | .hbm, ⟨71, _⟩ => ⟨S64x288, .f32⟩
  | .hbm, ⟨72, _⟩ => ⟨S288x64, .f32⟩
  | _, _ => ⟨S64x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]
-- ==== Moe.lean ====
abbrev S16 : Shape := ⟨1, ![16]⟩
abbrev S1 : Shape := ⟨1, ![1]⟩
abbrev S64x4096 : Shape := ⟨2, ![64, 4096]⟩
abbrev S1x4096 : Shape := ⟨2, ![1, 4096]⟩
abbrev S16x4096x3584 : Shape := ⟨3, ![16, 4096, 3584]⟩
abbrev S16x1x3584 : Shape := ⟨3, ![16, 1, 3584]⟩
abbrev S16x3584x4096 : Shape := ⟨3, ![16, 3584, 4096]⟩
abbrev S16x1x4096 : Shape := ⟨3, ![16, 1, 4096]⟩
abbrev S64x2 : Shape := ⟨2, ![64, 2]⟩
abbrev S128 : Shape := ⟨1, ![128]⟩
abbrev S1x4096x512 : Shape := ⟨3, ![1, 4096, 512]⟩
abbrev S1x1x512 : Shape := ⟨3, ![1, 1, 512]⟩
abbrev S1x512x4096 : Shape := ⟨3, ![1, 512, 4096]⟩
abbrev S1x1x4096 : Shape := ⟨3, ![1, 1, 4096]⟩
abbrev S64 : Shape := ⟨1, ![64]⟩
abbrev S64x1 : Shape := ⟨2, ![64, 1]⟩
abbrev S4096x512 : Shape := ⟨2, ![4096, 512]⟩
abbrev S64x512 : Shape := ⟨2, ![64, 512]⟩
abbrev S1x512 : Shape := ⟨2, ![1, 512]⟩
abbrev S512x4096 : Shape := ⟨2, ![512, 4096]⟩

abbrev nBuf : Space → Nat
  | .hbm => 13
  | .vmem => 20
  | .smem => 4
  | _ => 0

abbrev bufTy : (tb : Table) → Fin (tcTables nBuf tb) → BufTy
  | .hbm, ⟨0, _⟩ => ⟨S64x4096, .f32⟩
  | .hbm, ⟨1, _⟩ => ⟨S1x4096, .f32⟩
  | .hbm, ⟨2, _⟩ => ⟨S16x4096x3584, .i8⟩
  | .hbm, ⟨3, _⟩ => ⟨S16x1x3584, .f32⟩
  | .hbm, ⟨4, _⟩ => ⟨S16x4096x3584, .i8⟩
  | .hbm, ⟨5, _⟩ => ⟨S16x1x3584, .f32⟩
  | .hbm, ⟨6, _⟩ => ⟨S16x3584x4096, .i8⟩
  | .hbm, ⟨7, _⟩ => ⟨S16x1x4096, .f32⟩
  | .hbm, ⟨8, _⟩ => ⟨S64x2, .i32⟩
  | .hbm, ⟨9, _⟩ => ⟨S64x2, .f32⟩
  | .hbm, ⟨10, _⟩ => ⟨S128, .i32⟩
  | .hbm, ⟨11, _⟩ => ⟨S64x4096, .bf16⟩
  | .hbm, ⟨12, _⟩ => ⟨S64x4096, .f32⟩
  | .local _ .vmem, ⟨0, _⟩ => ⟨S64x4096, .f32⟩
  | .local _ .vmem, ⟨1, _⟩ => ⟨S1x4096, .f32⟩
  | .local _ .vmem, ⟨2, _⟩ => ⟨S1x4096x512, .i8⟩
  | .local _ .vmem, ⟨3, _⟩ => ⟨S1x4096x512, .i8⟩
  | .local _ .vmem, ⟨4, _⟩ => ⟨S1x1x512, .f32⟩
  | .local _ .vmem, ⟨5, _⟩ => ⟨S1x1x512, .f32⟩
  | .local _ .vmem, ⟨6, _⟩ => ⟨S1x4096x512, .i8⟩
  | .local _ .vmem, ⟨7, _⟩ => ⟨S1x4096x512, .i8⟩
  | .local _ .vmem, ⟨8, _⟩ => ⟨S1x1x512, .f32⟩
  | .local _ .vmem, ⟨9, _⟩ => ⟨S1x1x512, .f32⟩
  | .local _ .vmem, ⟨10, _⟩ => ⟨S1x512x4096, .i8⟩
  | .local _ .vmem, ⟨11, _⟩ => ⟨S1x512x4096, .i8⟩
  | .local _ .vmem, ⟨12, _⟩ => ⟨S1x1x4096, .f32⟩
  | .local _ .vmem, ⟨13, _⟩ => ⟨S1x1x4096, .f32⟩
  | .local _ .vmem, ⟨14, _⟩ => ⟨S64x2, .i32⟩
  | .local _ .vmem, ⟨15, _⟩ => ⟨S64x2, .f32⟩
  | .local _ .vmem, ⟨16, _⟩ => ⟨S64x4096, .bf16⟩
  | .local _ .vmem, ⟨17, _⟩ => ⟨S64x4096, .f32⟩
  | .local _ .vmem, ⟨18, _⟩ => ⟨S64x4096, .bf16⟩
  | .local _ .vmem, ⟨19, _⟩ => ⟨S64x4096, .f32⟩
  | .local _ .smem, ⟨0, _⟩ => ⟨S16, .i32⟩
  | .local _ .smem, ⟨1, _⟩ => ⟨S1, .i32⟩
  | .local _ .smem, ⟨2, _⟩ => ⟨S16, .i32⟩
  | .local _ .smem, ⟨3, _⟩ => ⟨S16, .i32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_arg9 : Ref sig .tc := ⟨.hbm, 5, rfl⟩
abbrev main_arg10 : Ref sig .tc := ⟨.hbm, 6, rfl⟩
abbrev main_arg11 : Ref sig .tc := ⟨.hbm, 7, rfl⟩
abbrev main_arg12 : Ref sig .tc := ⟨.hbm, 8, rfl⟩
abbrev main_arg13 : Ref sig .tc := ⟨.hbm, 9, rfl⟩
abbrev main_arg14 : Ref sig .tc := ⟨.hbm, 10, rfl⟩
abbrev main_v0_0 : Ref sig .tc := ⟨.hbm, 11, rfl⟩
abbrev main_v0_1 : Ref sig .tc := ⟨.hbm, 12, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨2, ![16, 7], ![false, false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def k0_cond5 (i : grid0.Coords) : BitVec 1 :=
  let arg1 : BitVec 32 := BitVec.ofNat 32 (i 1).val
  let c6_i32_27 : BitVec 32 := 6#32
  let v45 : BitVec 1 := Scalar.cmpi .eq arg1 c6_i32_27
  let v46 : BitVec 32 := Scalar.extui v45
  let c0_i32_28 : BitVec 32 := 0#32
  let v47 : BitVec 1 := Scalar.cmpi .ne v46 c0_i32_28
  v47

def k0_off2 (i : grid0.Coords) : Fin 1 → Nat :=
  let arg0 : BitVec 32 := BitVec.ofNat 32 (i 0).val
  let v48 : Index := Scalar.indexCast arg0
  ![v48.toNat]
def k0_off3 (v49 : BitVec 32) : Fin 1 → Nat :=
  let v51 : Index := Scalar.indexCast v49
  ![v51.toNat]
def k0_cond2 (i : grid0.Coords) (v5 : BitVec 32) : BitVec 1 :=
  let arg0 : BitVec 32 := BitVec.ofNat 32 (i 0).val
  let v6 : BitVec 1 := Scalar.cmpi .slt arg0 v5
  let v7 : BitVec 32 := Scalar.extui v6
  let c0_i32_2 : BitVec 32 := 0#32
  let v8 : BitVec 1 := Scalar.cmpi .ne v7 c0_i32_2
  v8

def k0_chk1 (i : grid0.Coords) (v5 : BitVec 32) (v49 : BitVec 32) : Prop :=
  (∀ (k0_h2 : k0_cond2 i v5 = 1#1), ∀ (k0_h5 : k0_cond5 i = 1#1), ∀ a, (k0_off3 v49) a + S1.size a ≤ S16.size a)
theorem k0_off3_inb : ∀ (i : grid0.Coords) (v5 : BitVec 32) (v49 : BitVec 32) (k0_hw1 : k0_chk1 i v5 v49), ∀ (k0_h2 : k0_cond2 i v5 = 1#1), ∀ (k0_h5 : k0_cond5 i = 1#1), ∀ a, (k0_off3 v49) a + S1.size a ≤ S16.size a := fun i v5 v49 k0_hw1 k0_h2 k0_h5 => k0_hw1 k0_h2 k0_h5

def k0_cond6 (i : grid0.Coords) : BitVec 1 :=
  let arg0 : BitVec 32 := BitVec.ofNat 32 (i 0).val
  let c15_i32 : BitVec 32 := 15#32
  let v9 : BitVec 1 := Scalar.cmpi .eq arg0 c15_i32
  let arg1 : BitVec 32 := BitVec.ofNat 32 (i 1).val
  let c6_i32 : BitVec 32 := 6#32
  let v10 : BitVec 1 := Scalar.cmpi .eq arg1 c6_i32
  let v11 : BitVec 1 := Scalar.andi v9 v10
  let v12 : BitVec 32 := Scalar.extui v11
  let c0_i32_3 : BitVec 32 := 0#32
  let v13 : BitVec 1 := Scalar.cmpi .ne v12 c0_i32_3
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S16.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .sge arg0 v0
  let v2 : Index := Scalar.indexCast arg0
  let v3 : BitVec 32 := pf.at 0 (Rect.unit (s := S16) ![v2.toNat] S1.size (k0_off1_inb i)) numel1_S1
  let c6_i32 : BitVec 32 := 6#32
  let v4 : BitVec 32 := Scalar.select v1 c6_i32 arg1
  let c0_i32 : BitVec 32 := 0#32
  let c0_i32_0 : BitVec 32 := 0#32
  ![v3.toNat, c0_i32.toNat, v4.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S16.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .sge arg0 v0
  let v2 : Index := Scalar.indexCast arg0
  let v3 : BitVec 32 := pf.at 0 (Rect.unit (s := S16) ![v2.toNat] S1.size (k0_off1_inb i)) numel1_S1
  let c6_i32 : BitVec 32 := 6#32
  let v4 : BitVec 32 := Scalar.select v1 c6_i32 arg1
  let c0_i32 : BitVec 32 := 0#32
  let c0_i32_0 : BitVec 32 := 0#32
  ![v3.toNat, c0_i32.toNat, v4.toNat]

def cc0_transform_4 (inb_S1_S1_0 : ∀ a, (![0] : Fin 1 → Nat) a + S1.size a ≤ S1.size a) (numel1_S1 : S1.numel = 1) (k0_off1_inb : ∀ i : grid0.Coords, ∀ a, (k0_off1 i) a + S1.size a ≤ S16.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .sge arg0 v0
  let v2 : Index := Scalar.indexCast arg0
  let v3 : BitVec 32 := pf.at 0 (Rect.unit (s := S16) ![v2.toNat] S1.size (k0_off1_inb i)) numel1_S1
  let c6_i32 : BitVec 32 := 6#32
  let v4 : BitVec 32 := Scalar.select v1 c6_i32 arg1
  let c0_i32 : BitVec 32 := 0#32
  let c0_i32_0 : BitVec 32 := 0#32
  ![v3.toNat, c0_i32.toNat, v4.toNat]

def cc0_transform_5 (inb_S1_S1_0 : ∀ a, (![0] : Fin 1 → Nat) a + S1.size a ≤ S1.size a) (numel1_S1 : S1.numel = 1) (k0_off1_inb : ∀ i : grid0.Coords, ∀ a, (k0_off1 i) a + S1.size a ≤ S16.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .sge arg0 v0
  let v2 : Index := Scalar.indexCast arg0
  let v3 : BitVec 32 := pf.at 0 (Rect.unit (s := S16) ![v2.toNat] S1.size (k0_off1_inb i)) numel1_S1
  let c6_i32 : BitVec 32 := 6#32
  let v4 : BitVec 32 := Scalar.select v1 c6_i32 arg1
  let c0_i32 : BitVec 32 := 0#32
  let c0_i32_0 : BitVec 32 := 0#32
  ![v3.toNat, c0_i32.toNat, v4.toNat]

def cc0_transform_6 (inb_S1_S1_0 : ∀ a, (![0] : Fin 1 → Nat) a + S1.size a ≤ S1.size a) (numel1_S1 : S1.numel = 1) (k0_off1_inb : ∀ i : grid0.Coords, ∀ a, (k0_off1 i) a + S1.size a ≤ S16.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .sge arg0 v0
  let v2 : Index := Scalar.indexCast arg0
  let v3 : BitVec 32 := pf.at 0 (Rect.unit (s := S16) ![v2.toNat] S1.size (k0_off1_inb i)) numel1_S1
  let c6_i32 : BitVec 32 := 6#32
  let v4 : BitVec 32 := Scalar.select v1 c6_i32 arg1
  let c0_i32 : BitVec 32 := 0#32
  let c0_i32_0 : BitVec 32 := 0#32
  ![v3.toNat, v4.toNat, c0_i32.toNat]

def cc0_transform_7 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x4096 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S64x2 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== MoeRefIdeal.lean ====
abbrev S16 : Shape := ⟨1, ![16]⟩
abbrev S1 : Shape := ⟨1, ![1]⟩
abbrev S64x4096 : Shape := ⟨2, ![64, 4096]⟩
abbrev S1x4096 : Shape := ⟨2, ![1, 4096]⟩
abbrev S16x4096x3584 : Shape := ⟨3, ![16, 4096, 3584]⟩
abbrev S16x1x3584 : Shape := ⟨3, ![16, 1, 3584]⟩
abbrev S16x3584x4096 : Shape := ⟨3, ![16, 3584, 4096]⟩
abbrev S16x1x4096 : Shape := ⟨3, ![16, 1, 4096]⟩
abbrev S64x2 : Shape := ⟨2, ![64, 2]⟩
abbrev S128 : Shape := ⟨1, ![128]⟩
abbrev S4096 : Shape := ⟨1, ![4096]⟩
abbrev S_ : Shape := ⟨0, ![]⟩
abbrev S64 : Shape := ⟨1, ![64]⟩
abbrev S64x1 : Shape := ⟨2, ![64, 1]⟩
abbrev S128x1 : Shape := ⟨2, ![128, 1]⟩
abbrev S128x4096 : Shape := ⟨2, ![128, 4096]⟩
abbrev S1x16 : Shape := ⟨2, ![1, 16]⟩
abbrev S128x16 : Shape := ⟨2, ![128, 16]⟩
abbrev S128x16x3584 : Shape := ⟨3, ![128, 16, 3584]⟩
abbrev S16x3584 : Shape := ⟨2, ![16, 3584]⟩
abbrev S1x16x3584 : Shape := ⟨3, ![1, 16, 3584]⟩
abbrev S128x16x1 : Shape := ⟨3, ![128, 16, 1]⟩
abbrev S128x3584 : Shape := ⟨2, ![128, 3584]⟩
abbrev S128x16x4096 : Shape := ⟨3, ![128, 16, 4096]⟩
abbrev S16x4096 : Shape := ⟨2, ![16, 4096]⟩
abbrev S1x16x4096 : Shape := ⟨3, ![1, 16, 4096]⟩
abbrev S64x2x1 : Shape := ⟨3, ![64, 2, 1]⟩
abbrev S64x2x4096 : Shape := ⟨3, ![64, 2, 4096]⟩

abbrev nBuf : Space → Nat
  | .hbm => 125
  | .vmem => 0
  | .smem => 0
  | _ => 0

abbrev bufTy : (tb : Table) → Fin (tcTables nBuf tb) → BufTy
  | .hbm, ⟨0, _⟩ => ⟨S16, .i32⟩
  | .hbm, ⟨1, _⟩ => ⟨S1, .i32⟩
  | .hbm, ⟨2, _⟩ => ⟨S16, .i32⟩
  | .hbm, ⟨3, _⟩ => ⟨S16, .i32⟩
  | .hbm, ⟨4, _⟩ => ⟨S64x4096, .f32⟩
  | .hbm, ⟨5, _⟩ => ⟨S1x4096, .f32⟩
  | .hbm, ⟨6, _⟩ => ⟨S16x4096x3584, .i8⟩
  | .hbm, ⟨7, _⟩ => ⟨S16x1x3584, .f32⟩
  | .hbm, ⟨8, _⟩ => ⟨S16x4096x3584, .i8⟩
  | .hbm, ⟨9, _⟩ => ⟨S16x1x3584, .f32⟩
  | .hbm, ⟨10, _⟩ => ⟨S16x3584x4096, .i8⟩
  | .hbm, ⟨11, _⟩ => ⟨S16x1x4096, .f32⟩
  | .hbm, ⟨12, _⟩ => ⟨S64x2, .i32⟩
  | .hbm, ⟨13, _⟩ => ⟨S64x2, .f32⟩
  | .hbm, ⟨14, _⟩ => ⟨S128, .i32⟩
  | .hbm, ⟨15, _⟩ => ⟨S4096, .f32⟩
  | .hbm, ⟨16, _⟩ => ⟨S64x4096, .f32⟩
  | .hbm, ⟨17, _⟩ => ⟨S_, .f32⟩
  | .hbm, ⟨18, _⟩ => ⟨S64, .f32⟩
  | .hbm, ⟨19, _⟩ => ⟨S64x1, .f32⟩
  | .hbm, ⟨20, _⟩ => ⟨S_, .f32⟩
  | .hbm, ⟨21, _⟩ => ⟨S64x1, .f32⟩
  | .hbm, ⟨22, _⟩ => ⟨S64x1, .f32⟩
  | .hbm, ⟨23, _⟩ => ⟨S_, .f32⟩
  | .hbm, ⟨24, _⟩ => ⟨S64x1, .f32⟩
  | .hbm, ⟨25, _⟩ => ⟨S64x1, .f32⟩
  | .hbm, ⟨26, _⟩ => ⟨S64x1, .f32⟩
  | .hbm, ⟨27, _⟩ => ⟨S64x4096, .f32⟩
  | .hbm, ⟨28, _⟩ => ⟨S64x4096, .f32⟩
  | .hbm, ⟨29, _⟩ => ⟨S1x4096, .f32⟩
  | .hbm, ⟨30, _⟩ => ⟨S64x4096, .f32⟩
  | .hbm, ⟨31, _⟩ => ⟨S64x4096, .f32⟩
  | .hbm, ⟨32, _⟩ => ⟨S64x4096, .bf16⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S128x1, .i32⟩
  | .hbm, ⟨41, _⟩ => ⟨S128x4096, .bf16⟩
  | .hbm, ⟨42, _⟩ => ⟨S128, .i32⟩
  | .hbm, ⟨43, _⟩ => ⟨S128x1, .i32⟩
  | .hbm, ⟨44, _⟩ => ⟨S1x16, .i32⟩
  | .hbm, ⟨45, _⟩ => ⟨S128x16, .i32⟩
  | .hbm, ⟨46, _⟩ => ⟨S128x16, .i32⟩
  | .hbm, ⟨47, _⟩ => ⟨S128x16, .i1⟩
  | .hbm, ⟨48, _⟩ => ⟨S1x16, .i32⟩
  | .hbm, ⟨49, _⟩ => ⟨S128x16, .i32⟩
  | .hbm, ⟨50, _⟩ => ⟨S128x16, .i32⟩
  | .hbm, ⟨51, _⟩ => ⟨S128x16, .i1⟩
  | .hbm, ⟨52, _⟩ => ⟨S128x16, .i1⟩
  | .hbm, ⟨53, _⟩ => ⟨S16x4096x3584, .i32⟩
  | .hbm, ⟨54, _⟩ => ⟨S16x4096x3584, .bf16⟩
  | .hbm, ⟨55, _⟩ => ⟨S128x16x3584, .f32⟩
  | .hbm, ⟨56, _⟩ => ⟨S16x3584, .f32⟩
  | .hbm, ⟨57, _⟩ => ⟨S1x16x3584, .f32⟩
  | .hbm, ⟨58, _⟩ => ⟨S128x16x3584, .f32⟩
  | .hbm, ⟨59, _⟩ => ⟨S128x16x3584, .f32⟩
  | .hbm, ⟨60, _⟩ => ⟨S128x16x1, .i1⟩
  | .hbm, ⟨61, _⟩ => ⟨S_, .f32⟩
  | .hbm, ⟨62, _⟩ => ⟨S_, .f32⟩
  | .hbm, ⟨63, _⟩ => ⟨S128x16x3584, .i1⟩
  | .hbm, ⟨64, _⟩ => ⟨S128x16x3584, .f32⟩
  | .hbm, ⟨65, _⟩ => ⟨S128x16x3584, .f32⟩
  | .hbm, ⟨66, _⟩ => ⟨S_, .f32⟩
  | .hbm, ⟨67, _⟩ => ⟨S128x3584, .f32⟩
  | .hbm, ⟨68, _⟩ => ⟨S16x4096x3584, .i32⟩
  | .hbm, ⟨69, _⟩ => ⟨S16x4096x3584, .bf16⟩
  | .hbm, ⟨70, _⟩ => ⟨S128x16x3584, .f32⟩
  | .hbm, ⟨71, _⟩ => ⟨S16x3584, .f32⟩
  | .hbm, ⟨72, _⟩ => ⟨S1x16x3584, .f32⟩
  | .hbm, ⟨73, _⟩ => ⟨S128x16x3584, .f32⟩
  | .hbm, ⟨74, _⟩ => ⟨S128x16x3584, .f32⟩
  | .hbm, ⟨75, _⟩ => ⟨S128x16x1, .i1⟩
  | .hbm, ⟨76, _⟩ => ⟨S_, .f32⟩
  | .hbm, ⟨77, _⟩ => ⟨S_, .f32⟩
  | .hbm, ⟨78, _⟩ => ⟨S128x16x3584, .i1⟩
  | .hbm, ⟨79, _⟩ => ⟨S128x16x3584, .f32⟩
  | .hbm, ⟨80, _⟩ => ⟨S128x16x3584, .f32⟩
  | .hbm, ⟨81, _⟩ => ⟨S_, .f32⟩
  | .hbm, ⟨82, _⟩ => ⟨S128x3584, .f32⟩
  | .hbm, ⟨83, _⟩ => ⟨S128x3584, .f32⟩
  | .hbm, ⟨84, _⟩ => ⟨S128x3584, .f32⟩
  | .hbm, ⟨85, _⟩ => ⟨S_, .f32⟩
  | .hbm, ⟨86, _⟩ => ⟨S128x3584, .f32⟩
  | .hbm, ⟨87, _⟩ => ⟨S128x3584, .f32⟩
  | .hbm, ⟨88, _⟩ => ⟨S_, .f32⟩
  | .hbm, ⟨89, _⟩ => ⟨S128x3584, .f32⟩
  | .hbm, ⟨90, _⟩ => ⟨S128x3584, .f32⟩
  | .hbm, ⟨91, _⟩ => ⟨S128x3584, .f32⟩
  | .hbm, ⟨92, _⟩ => ⟨S128x3584, .f32⟩
  | .hbm, ⟨93, _⟩ => ⟨S128x3584, .bf16⟩
  | .hbm, ⟨94, _⟩ => ⟨S16x3584x4096, .i32⟩
  | .hbm, ⟨95, _⟩ => ⟨S16x3584x4096, .bf16⟩
  | .hbm, ⟨96, _⟩ => ⟨S128x16x4096, .f32⟩
  | .hbm, ⟨97, _⟩ => ⟨S16x4096, .f32⟩
  | .hbm, ⟨98, _⟩ => ⟨S1x16x4096, .f32⟩
  | .hbm, ⟨99, _⟩ => ⟨S128x16x4096, .f32⟩
  | .hbm, ⟨100, _⟩ => ⟨S128x16x4096, .f32⟩
  | .hbm, ⟨101, _⟩ => ⟨S128x16x1, .i1⟩
  | .hbm, ⟨102, _⟩ => ⟨S_, .f32⟩
  | .hbm, ⟨103, _⟩ => ⟨S_, .f32⟩
  | .hbm, ⟨104, _⟩ => ⟨S128x16x4096, .i1⟩
  | .hbm, ⟨105, _⟩ => ⟨S128x16x4096, .f32⟩
  | .hbm, ⟨106, _⟩ => ⟨S128x16x4096, .f32⟩
  | .hbm, ⟨107, _⟩ => ⟨S_, .f32⟩
  | .hbm, ⟨108, _⟩ => ⟨S128x4096, .f32⟩
  | .hbm, ⟨109, _⟩ => ⟨S_, .i32⟩
  | .hbm, ⟨110, _⟩ => ⟨S64x2, .i32⟩
  | .hbm, ⟨111, _⟩ => ⟨S64x2, .i1⟩
  | .hbm, ⟨112, _⟩ => ⟨S_, .i32⟩
  | .hbm, ⟨113, _⟩ => ⟨S64x2, .i32⟩
  | .hbm, ⟨114, _⟩ => ⟨S64x2, .i32⟩
  | .hbm, ⟨115, _⟩ => ⟨S64x2, .i32⟩
  | .hbm, ⟨116, _⟩ => ⟨S64x2x1, .i32⟩
  | .hbm, ⟨117, _⟩ => ⟨S64x2x4096, .f32⟩
  | .hbm, ⟨118, _⟩ => ⟨S64x2x1, .f32⟩
  | .hbm, ⟨119, _⟩ => ⟨S64x2x4096, .f32⟩
  | .hbm, ⟨120, _⟩ => ⟨S64x2x4096, .f32⟩
  | .hbm, ⟨121, _⟩ => ⟨S_, .f32⟩
  | .hbm, ⟨122, _⟩ => ⟨S64x4096, .f32⟩
  | .hbm, ⟨123, _⟩ => ⟨S64x4096, .f32⟩
  | .hbm, ⟨124, _⟩ => ⟨S64x4096, .bf16⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v51 : Ref sig .tc := ⟨.hbm, 80, rfl⟩
abbrev main_cst_6 : Ref sig .tc := ⟨.hbm, 81, rfl⟩
abbrev main_v52 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_7 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v64 : Ref sig .tc := ⟨.hbm, 106, rfl⟩
abbrev main_cst_8 : Ref sig .tc := ⟨.hbm, 107, rfl⟩
abbrev main_v65 : Ref sig .tc := ⟨.hbm, 108, rfl⟩
abbrev main_c_9 : Ref sig .tc := ⟨.hbm, 109, rfl⟩
abbrev main_v66 : Ref sig .tc := ⟨.hbm, 110, rfl⟩
abbrev main_v67 : Ref sig .tc := ⟨.hbm, 111, rfl⟩
abbrev main_c_10 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_11 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩

abbrev nD : Nat := 1
abbrev τ : Topo := Topo.v7x

variable {F : FTy → Type} [FloatOps F]
-- ==== Proof.InProjPoint.lean ====
/- What the in-projection's body is at one grid point: the conditions of its three branches over the point, which
   windows a point leaves alone, the names of the staging buffers, and the value of the convolution before the
   activation (`convPre`) as a function of the blocks the point is handed. -/
module

public import proofs.«01_k».proof.Proof.Gen.InProjIdeal.Launch
public import proofs.«01_k».proof.Proof.Gen.InProjIdeal.Skeleton
public import proofs.«01_k».proof.Proof.Gen.InProjIdeal.Points
public import proofs.«01_k».proof.Proof.Gen.InProjIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.TableIdle
public import Idealize.ShloMosaic.Lib.Pipeline.Value

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points before point 16 — decided over the grid. -/
theorem hcond0_1 : ∀ t : Fin cfg0.N, cond0_1 (grid0.coords t) ↔ t.val < 16 :=
  (by decide +kernel : ∀ t : Fin grid0.N, cond0_1 (grid0.coords t) ↔ t.val < 16)

/-- The condition of the body's `scf.if` 2 (`k0_h3`), from the grid coordinates (the skeleton's scalar
    chain substituted). -/
abbrev cond0_2 (i : grid0.Coords) : Prop := k0_cond3 i = 1#1
/-- It holds at the points from point 16 on — decided over the grid. -/
theorem hcond0_2 : ∀ t : Fin cfg0.N, cond0_2 (grid0.coords t) ↔ 16 ≤ t.val :=
  (by decide +kernel : ∀ t : Fin grid0.N, cond0_2 (grid0.coords t) ↔ 16 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S64x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x83x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S288x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x1 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S288x64 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S64x4096 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- A load of a rectangle reads the contents at the rectangle's indices. -/
theorem readAt_block {sg : RefSig} {κ : Kind} {sp : Space} {s : Shape} {e : EltTy} (v : View sg κ sp s e) (f : v.ty.Contents (Elt F)) (r : Rect s) :
    v.readAt (Elt F) r.toLoadRect f = fun j => v.read (Elt F) f (r.emb j) := rfl

/-- Contents read over the whole rectangle are the contents. -/
theorem emb_all {S : Shape} {α : Type} (X : S.Idx → α) (off : Fin S.rank → ℕ) (inb : ∀ a, off a + S.size a ≤ S.size a) :
    (fun j => X ((Rect.unit off S.size inb).emb j)) = X := by
  funext j; congr 1; funext a; apply Fin.ext
  have h := inb a
  rw [Rect.emb_apply]
  show off a + 1 * (j a).val = (j a).val
  omega

/-! The same, with the sizes of the blocks this body loads whole written out. -/
theorem all_S64x4096 {α : Type} (X : S64x4096.Idx → α) : (fun j => X ((Rect.unit (s := S64x4096) ![0, 0] ![64, 4096] inb_S64x4096_S64x4096_0_0).emb j)) = X := emb_all X _ _
theorem all_S4096x512 {α : Type} (X : S4096x512.Idx → α) : (fun j => X ((Rect.unit (s := S4096x512) ![0, 0] ![4096, 512] inb_S4096x512_S4096x512_0_0).emb j)) = X := emb_all X _ _
theorem all_S1x512 {α : Type} (X : S1x512.Idx → α) : (fun j => X ((Rect.unit (s := S1x512) ![0, 0] ![1, 512] inb_S1x512_S1x512_0_0).emb j)) = X := emb_all X _ _
theorem all_S288x512 {α : Type} (X : S288x512.Idx → α) : (fun j => X ((Rect.unit (s := S288x512) ![0, 0] ![288, 512] inb_S288x512_S288x512_0_0).emb j)) = X := emb_all X _ _
theorem all_S64x1 {α : Type} (X : S64x1.Idx → α) : (fun j => X ((Rect.unit (s := S64x1) ![0, 0] ![64, 1] inb_S64x1_S64x1_0_0).emb j)) = X := emb_all X _ _
theorem all_S288x64 {α : Type} (X : S288x64.Idx → α) : (fun j => X ((Rect.unit (s := S288x64) ![0, 0] ![288, 64] inb_S288x64_S288x64_0_0).emb j)) = X := emb_all X _ _
theorem all_S1x4096 {α : Type} (X : S1x4096.Idx → α) : (fun j => X ((Rect.unit (s := S1x4096) ![0, 0] ![1, 4096] inb_S1x4096_S1x4096_0_0).emb j)) = X := emb_all X _ _

/-- Row `k` of the four rows of convolution weights a point is handed, for the row's rectangle `r`. -/
abbrev cwRow (k : ℕ) (inb : ∀ a, (![k, 0] : Fin 2 → ℕ) a + S1x512.size a ≤ S4x512.size a) (x5 : Vec F S4x512 .f32) : Vec F S1x512 .f32 :=
  fun j => x5 ((Rect.unit (s := S4x512) ![k, 0] S1x512.size inb).emb j)

/-- Tap `k` of the three rows of the history pool a point is handed, over all the pool's slots. -/
abbrev poolTap (k : ℕ) (inb : ∀ a, (![k, 0, 0] : Fin 3 → ℕ) a + S1x83x512.size a ≤ S3x83x512.size a) (x4 : Vec F S3x83x512 .bf16) : Vec F S1x83x512 .bf16 :=
  fun j => x4 ((Rect.unit (s := S3x83x512) ![k, 0, 0] S1x83x512.size inb).emb j)

/-- The convolution's value before the activation at one point: the block of the in-projection's first half, the
    three taps picked from the pool by the slot numbers, their weights and the bias. -/
def convPre (xn : Vec F S64x4096 .bf16) (x2 : Vec F S4096x512 .i8) (x3 : Vec F S1x512 .f32) (x4 : Vec F S3x83x512 .bf16)
    (x5 : Vec F S4x512 .f32) (x6 : Vec F S1x512 .f32) (x8 : Vec F S64x1 .i32) : FVec F S64x512 .f32 :=
  k0_pay7 (k0_pay3 xn x2 x3) x8 x6 (cwRow 3 inb_S4x512_S1x512_3_0 x5)
    (poolTap 0 inb_S3x83x512_S1x83x512_0_0_0 x4) (cwRow 0 inb_S4x512_S1x512_0_0 x5)
    (poolTap 1 inb_S3x83x512_S1x83x512_1_0_0 x4) (cwRow 1 inb_S4x512_S1x512_1_0 x5)
    (poolTap 2 inb_S3x83x512_S1x83x512_2_0_0 x4) (cwRow 2 inb_S4x512_S1x512_2_0 x5)

end Cert.InProjIdeal.Hand

end
-- ==== Proof.InProjRun.lean ====
module

public import proofs.«01_k».proof.Proof.InProjPoint

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point: the normalised tokens go into the scratch, the x-projection's sum starts from zero, and the first block of channels is convolved, activated, stored and added to it; the gate's block is not touched. -/
theorem run_A (c : Dev nD) (i : grid0.Coords) (arg1 : Memref sig .tc .vmem S64x4096 .bf16) (harg1 : arg1.IsWhole) (arg2 : Memref sig .tc .vmem S1x4096 .f32) (harg2 : arg2.IsWhole) (arg3 : Memref sig .tc .vmem S4096x512 .i8) (harg3 : arg3.IsWhole) (arg4 : Memref sig .tc .vmem S1x512 .f32) (harg4 : arg4.IsWhole) (arg5 : Memref sig .tc .vmem S3x83x512 .bf16) (harg5 : arg5.IsWhole) (arg6 : Memref sig .tc .vmem S4x512 .f32) (harg6 : arg6.IsWhole) (arg7 : Memref sig .tc .vmem S1x512 .f32) (harg7 : arg7.IsWhole) (arg8 : Memref sig .tc .vmem S288x512 .f32) (harg8 : arg8.IsWhole) (arg9 : Memref sig .tc .vmem S64x1 .i32) (harg9 : arg9.IsWhole) (arg10 : Memref sig .tc .vmem S64x512 .f32) (harg10 : arg10.IsWhole) (arg11 : Memref sig .tc .vmem S64x512 .bf16) (harg11 : arg11.IsWhole) (arg12 : Memref sig .tc .vmem S64x512 .f32) (harg12 : arg12.IsWhole) (arg13 : Memref sig .tc .vmem S288x64 .f32) (harg13 : arg13.IsWhole) (arg14 : Memref sig .tc .vmem S64x4096 .bf16) (harg14 : arg14.IsWhole) (hc0 : cond0_0 i) (hc1 : cond0_1 i) (hc2 : ¬cond0_2 i)
    (x0 : Vec F S64x4096 .bf16) (x1 : Vec F S1x4096 .f32) (x2 : Vec F S4096x512 .i8) (x3 : Vec F S1x512 .f32) (x4 : Vec F S3x83x512 .bf16) (x5 : Vec F S4x512 .f32) (x6 : Vec F S1x512 .f32) (x7 : Vec F S288x512 .f32) (x8 : Vec F S64x1 .i32) (z : Vec F S64x512 .f32) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (x7) ∗ owns (c : Thread nD τ) arg9 fullShare (x8) ∗ (∃ d, owns (c : Thread nD τ) arg10 fullShare d) ∗ (∃ d, owns (c : Thread nD τ) arg11 fullShare d) ∗ owns (c : Thread nD τ) arg12 fullShare (z) ∗ (∃ d, owns (c : Thread nD τ) arg13 fullShare d) ∗ (∃ d, owns (c : Thread nD τ) arg14 fullShare d)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (x7) ∗ owns (c : Thread nD τ) arg9 fullShare (x8) ∗ owns (c : Thread nD τ) arg10 fullShare (k0_pay4 (convPre (k0_pay1 x0 x1) x2 x3 x4 x5 x6 x8)) ∗ owns (c : Thread nD τ) arg11 fullShare (k0_pay5 (k0_pay1 x0 x1) x2 x3) ∗ owns (c : Thread nD τ) arg12 fullShare (z) ∗ owns (c : Thread nD τ) arg13 fullShare (k0_pay6 (convPre (k0_pay1 x0 x1) x2 x3 x4 x5 x6 x8) (k0_pay2 (F := F)) x7) ∗ owns (c : Thread nD τ) arg14 fullShare (k0_pay1 x0 x1)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, ⟨%d13, %f13, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg12.eq_unread hf11
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro; exact (View.read_writes_full _ _ _ _ _).trans (by (try unfold run_A.sl.r); (try unfold run_A.sl.v3); (try unfold run_A.sl.v58); (try unfold run_A.sl.HS0_1); (try unfold run_A.sl.H12_1); simp only [View.readCov_cons_toLoadRect, View.readAt_writes_full, View.readAt_full, readAt_block, Memref.IsWhole.read_unread, convPre, all_S64x4096, all_S4096x512, all_S1x512, all_S288x512, all_S64x1, all_S288x64, all_S1x4096]; try rfl)
  isplitl [H10]
  · iexists _; isplitr; swap; · iexact H10
    ipureintro; exact (View.read_writes_full _ _ _ _ _).trans (by (try unfold run_A.sl.r); (try unfold run_A.sl.v3); (try unfold run_A.sl.v58); (try unfold run_A.sl.HS0_1); (try unfold run_A.sl.H12_1); simp only [View.readCov_cons_toLoadRect, View.readAt_writes_full, View.readAt_full, readAt_block, Memref.IsWhole.read_unread, convPre, all_S64x4096, all_S4096x512, all_S1x512, all_S288x512, all_S64x1, all_S288x64, all_S1x4096]; try rfl)
  isplitl [H11]
  · iexists _; isplitr; · ipureintro; exact harg12.read_unread _
    iexact H11
  isplitl [H12]
  · iexists _; isplitr; swap; · iexact H12
    ipureintro; exact (View.read_writes_full _ _ _ _ _).trans (by (try unfold run_A.sl.r); (try unfold run_A.sl.v3); (try unfold run_A.sl.v58); (try unfold run_A.sl.HS0_1); (try unfold run_A.sl.H12_1); simp only [View.readCov_cons_toLoadRect, View.readAt_writes_full, View.readAt_full, readAt_block, Memref.IsWhole.read_unread, convPre, all_S64x4096, all_S4096x512, all_S1x512, all_S288x512, all_S64x1, all_S288x64, all_S1x4096]; try rfl)
  iexists _; isplitr; swap; · iexact HS0
  ipureintro; exact (View.read_writes_full _ _ _ _ _).trans (by (try unfold run_A.sl.r); (try unfold run_A.sl.v3); (try unfold run_A.sl.v58); (try unfold run_A.sl.HS0_1); (try unfold run_A.sl.H12_1); simp only [View.readCov_cons_toLoadRect, View.readAt_writes_full, View.readAt_full, readAt_block, Memref.IsWhole.read_unread, convPre, all_S64x4096, all_S4096x512, all_S1x512, all_S288x512, all_S64x1, all_S288x64, all_S1x4096]; try rfl)

set_option maxHeartbeats 2000000 in
/-- A later point of the first half: one more block of channels, from the carried normalised tokens and the carried sum. -/
theorem run_B (c : Dev nD) (i : grid0.Coords) (arg1 : Memref sig .tc .vmem S64x4096 .bf16) (harg1 : arg1.IsWhole) (arg2 : Memref sig .tc .vmem S1x4096 .f32) (harg2 : arg2.IsWhole) (arg3 : Memref sig .tc .vmem S4096x512 .i8) (harg3 : arg3.IsWhole) (arg4 : Memref sig .tc .vmem S1x512 .f32) (harg4 : arg4.IsWhole) (arg5 : Memref sig .tc .vmem S3x83x512 .bf16) (harg5 : arg5.IsWhole) (arg6 : Memref sig .tc .vmem S4x512 .f32) (harg6 : arg6.IsWhole) (arg7 : Memref sig .tc .vmem S1x512 .f32) (harg7 : arg7.IsWhole) (arg8 : Memref sig .tc .vmem S288x512 .f32) (harg8 : arg8.IsWhole) (arg9 : Memref sig .tc .vmem S64x1 .i32) (harg9 : arg9.IsWhole) (arg10 : Memref sig .tc .vmem S64x512 .f32) (harg10 : arg10.IsWhole) (arg11 : Memref sig .tc .vmem S64x512 .bf16) (harg11 : arg11.IsWhole) (arg12 : Memref sig .tc .vmem S64x512 .f32) (harg12 : arg12.IsWhole) (arg13 : Memref sig .tc .vmem S288x64 .f32) (harg13 : arg13.IsWhole) (arg14 : Memref sig .tc .vmem S64x4096 .bf16) (harg14 : arg14.IsWhole) (hc0 : ¬cond0_0 i) (hc1 : cond0_1 i) (hc2 : ¬cond0_2 i)
    (x0 : Vec F S64x4096 .bf16) (x1 : Vec F S1x4096 .f32) (x2 : Vec F S4096x512 .i8) (x3 : Vec F S1x512 .f32) (x4 : Vec F S3x83x512 .bf16) (x5 : Vec F S4x512 .f32) (x6 : Vec F S1x512 .f32) (x7 : Vec F S288x512 .f32) (x8 : Vec F S64x1 .i32) (z : Vec F S64x512 .f32) (xd : Vec F S288x64 .f32) (xn : Vec F S64x4096 .bf16) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (x7) ∗ owns (c : Thread nD τ) arg9 fullShare (x8) ∗ (∃ d, owns (c : Thread nD τ) arg10 fullShare d) ∗ (∃ d, owns (c : Thread nD τ) arg11 fullShare d) ∗ owns (c : Thread nD τ) arg12 fullShare (z) ∗ owns (c : Thread nD τ) arg13 fullShare (xd) ∗ owns (c : Thread nD τ) arg14 fullShare (xn)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (x7) ∗ owns (c : Thread nD τ) arg9 fullShare (x8) ∗ owns (c : Thread nD τ) arg10 fullShare (k0_pay4 (convPre xn x2 x3 x4 x5 x6 x8)) ∗ owns (c : Thread nD τ) arg11 fullShare (k0_pay5 xn x2 x3) ∗ owns (c : Thread nD τ) arg12 fullShare (z) ∗ owns (c : Thread nD τ) arg13 fullShare (k0_pay6 (convPre xn x2 x3 x4 x5 x6 x8) xd x7) ∗ owns (c : Thread nD τ) arg14 fullShare (xn)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg12.eq_unread hf11; obtain rfl := harg13.eq_unread hf12; obtain rfl := harg14.eq_unread hf13
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro; exact (View.read_writes_full _ _ _ _ _).trans (by (try unfold run_B.sl.r); (try unfold run_B.sl.v3); (try unfold run_B.sl.v58); (try unfold run_B.sl.HS0_1); (try unfold run_B.sl.H12_1); simp only [View.readCov_cons_toLoadRect, View.readAt_writes_full, View.readAt_full, readAt_block, Memref.IsWhole.read_unread, convPre, all_S64x4096, all_S4096x512, all_S1x512, all_S288x512, all_S64x1, all_S288x64, all_S1x4096]; try rfl)
  isplitl [H10]
  · iexists _; isplitr; swap; · iexact H10
    ipureintro; exact (View.read_writes_full _ _ _ _ _).trans (by (try unfold run_B.sl.r); (try unfold run_B.sl.v3); (try unfold run_B.sl.v58); (try unfold run_B.sl.HS0_1); (try unfold run_B.sl.H12_1); simp only [View.readCov_cons_toLoadRect, View.readAt_writes_full, View.readAt_full, readAt_block, Memref.IsWhole.read_unread, convPre, all_S64x4096, all_S4096x512, all_S1x512, all_S288x512, all_S64x1, all_S288x64, all_S1x4096]; try rfl)
  isplitl [H11]
  · iexists _; isplitr; · ipureintro; exact harg12.read_unread _
    iexact H11
  isplitl [H12]
  · iexists _; isplitr; swap; · iexact H12
    ipureintro; exact (View.read_writes_full _ _ _ _ _).trans (by (try unfold run_B.sl.r); (try unfold run_B.sl.v3); (try unfold run_B.sl.v58); (try unfold run_B.sl.HS0_1); (try unfold run_B.sl.H12_1); simp only [View.readCov_cons_toLoadRect, View.readAt_writes_full, View.readAt_full, readAt_block, Memref.IsWhole.read_unread, convPre, all_S64x4096, all_S4096x512, all_S1x512, all_S288x512, all_S64x1, all_S288x64, all_S1x4096]; try rfl)
  iexists _; isplitr; · ipureintro; exact harg14.read_unread _
  iexact HS0

set_option maxHeartbeats 2000000 in
/-- A point of the second half: one block of the gate from the carried normalised tokens; the other outputs are not touched. -/
theorem run_C (c : Dev nD) (i : grid0.Coords) (arg1 : Memref sig .tc .vmem S64x4096 .bf16) (harg1 : arg1.IsWhole) (arg2 : Memref sig .tc .vmem S1x4096 .f32) (harg2 : arg2.IsWhole) (arg3 : Memref sig .tc .vmem S4096x512 .i8) (harg3 : arg3.IsWhole) (arg4 : Memref sig .tc .vmem S1x512 .f32) (harg4 : arg4.IsWhole) (arg5 : Memref sig .tc .vmem S3x83x512 .bf16) (harg5 : arg5.IsWhole) (arg6 : Memref sig .tc .vmem S4x512 .f32) (harg6 : arg6.IsWhole) (arg7 : Memref sig .tc .vmem S1x512 .f32) (harg7 : arg7.IsWhole) (arg8 : Memref sig .tc .vmem S288x512 .f32) (harg8 : arg8.IsWhole) (arg9 : Memref sig .tc .vmem S64x1 .i32) (harg9 : arg9.IsWhole) (arg10 : Memref sig .tc .vmem S64x512 .f32) (harg10 : arg10.IsWhole) (arg11 : Memref sig .tc .vmem S64x512 .bf16) (harg11 : arg11.IsWhole) (arg12 : Memref sig .tc .vmem S64x512 .f32) (harg12 : arg12.IsWhole) (arg13 : Memref sig .tc .vmem S288x64 .f32) (harg13 : arg13.IsWhole) (arg14 : Memref sig .tc .vmem S64x4096 .bf16) (harg14 : arg14.IsWhole) (hc0 : ¬cond0_0 i) (hc1 : ¬cond0_1 i) (hc2 : cond0_2 i)
    (x0 : Vec F S64x4096 .bf16) (x1 : Vec F S1x4096 .f32) (x2 : Vec F S4096x512 .i8) (x3 : Vec F S1x512 .f32) (x4 : Vec F S3x83x512 .bf16) (x5 : Vec F S4x512 .f32) (x6 : Vec F S1x512 .f32) (x7 : Vec F S288x512 .f32) (x8 : Vec F S64x1 .i32) (xc : Vec F S64x512 .f32) (cr : Vec F S64x512 .bf16) (xd : Vec F S288x64 .f32) (xn : Vec F S64x4096 .bf16) (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (x7) ∗ owns (c : Thread nD τ) arg9 fullShare (x8) ∗ owns (c : Thread nD τ) arg10 fullShare (xc) ∗ owns (c : Thread nD τ) arg11 fullShare (cr) ∗ (∃ d, owns (c : Thread nD τ) arg12 fullShare d) ∗ owns (c : Thread nD τ) arg13 fullShare (xd) ∗ owns (c : Thread nD τ) arg14 fullShare (xn)
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (x5) ∗ owns (c : Thread nD τ) arg7 fullShare (x6) ∗ owns (c : Thread nD τ) arg8 fullShare (x7) ∗ owns (c : Thread nD τ) arg9 fullShare (x8) ∗ owns (c : Thread nD τ) arg10 fullShare (xc) ∗ owns (c : Thread nD τ) arg11 fullShare (cr) ∗ owns (c : Thread nD τ) arg12 fullShare (k0_pay3 xn x2 x3) ∗ owns (c : Thread nD τ) arg13 fullShare (xd) ∗ owns (c : Thread nD τ) arg14 fullShare (xn)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg10.eq_unread hf9; obtain rfl := harg11.eq_unread hf10; obtain rfl := harg13.eq_unread hf12; obtain rfl := harg14.eq_unread hf13
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro; exact (View.read_writes_full _ _ _ _ _).trans (by (try unfold run_C.sl.r); (try unfold run_C.sl.v3); (try unfold run_C.sl.v58); (try unfold run_C.sl.HS0_1); (try unfold run_C.sl.H12_1); simp only [View.readCov_cons_toLoadRect, View.readAt_writes_full, View.readAt_full, readAt_block, Memref.IsWhole.read_unread, convPre, all_S64x4096, all_S4096x512, all_S1x512, all_S288x512, all_S64x1, all_S288x64, all_S1x4096]; try rfl)
  isplitl [H12]
  · iexists _; isplitr; · ipureintro; exact harg13.read_unread _
    iexact H12
  iexists _; isplitr; · ipureintro; exact harg14.read_unread _
  iexact HS0

end Cert.InProjIdeal.Hand

end
-- ==== Proof.InProjPipe.lean ====
/- The in-projection's pipeline, its outputs named: what each output's staging buffer holds after each grid point
   (the last block of the first half stays resident through the second half and is written back at the end), the
   invariant carrying the normalised tokens in the scratch, the body's obligation, and the run. -/
module

public import proofs.«01_k».proof.Proof.InProjRun

public import Idealize.ShloMosaic.Lib.Claim

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold -/

/-- The last point of the first half that is not after `t`: the point whose channels' blocks are resident at `t`. -/
def tA (t : Fin cfg0.N) : Fin cfg0.N := ⟨min t.val 15, lt_of_le_of_lt (Nat.min_le_left _ _) t.isLt⟩

/-- The first point. -/
def tZ : Fin cfg0.N := ⟨0, lt_of_lt_of_eq (by decide : 0 < 32) (show 32 = cfg0.N from N_0.symm)⟩

/-- The normalised tokens, which the first point stores in the scratch. -/
def xnv (c : Dev nD) : Vec F S64x4096 .bf16 := k0_pay1 (iblk m c 0 tZ) (iblk m c 1 tZ)

/-- The convolution before the activation at point `t`. -/
def convv (c : Dev nD) (t : Fin cfg0.N) : Vec F S64x512 .f32 :=
  convPre (xnv m c) (iblk m c 2 t) (iblk m c 3 t) (iblk m c 4 t) (iblk m c 5 t) (iblk m c 6 t) (iblk m c 8 t)

/-- The activated convolution at point `t`. -/
def xcv (c : Dev nD) (t : Fin cfg0.N) : Vec F S64x512 .f32 := k0_pay4 (convv m c t)

/-- The row kept for the next step's convolution at point `t`. -/
def crv (c : Dev nD) (t : Fin cfg0.N) : Vec F S64x512 .bf16 := k0_pay5 (xnv m c) (iblk m c 2 t) (iblk m c 3 t)

/-- The gate's block at point `t`. -/
def zv (c : Dev nD) (t : Fin cfg0.N) : Vec F S64x512 .f32 := k0_pay3 (xnv m c) (iblk m c 2 t) (iblk m c 3 t)

/-- The x-projection's sum over the blocks of channels up to point `n`. -/
def xdv (c : Dev nD) : (n : ℕ) → n < cfg0.N → Vec F S288x64 .f32
  | 0, h => k0_pay6 (convv m c ⟨0, h⟩) (k0_pay2 (F := F)) (iblk m c 7 ⟨0, h⟩)
  | n + 1, h => k0_pay6 (convv m c ⟨n + 1, h⟩) (xdv c n (Nat.lt_of_succ_lt h)) (iblk m c 7 ⟨n + 1, h⟩)

/-! ## The invariant and the proof data -/

/-- Before the first point the scratch holds anything; afterwards the normalised tokens. -/
def PhiS (c : Dev nD) : (n : ℕ) → n ≤ cfg0.N → sProp 𝕄
  | 0, _ => Pipeline.ΦA spec0 c
  | n + 1, hn => iprop(iprop(owns (c : Thread nD τ) scM0_0 fullShare (xnv m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xnv m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (xnv m c)) ∗ (∃ r, prngReg c r)) := by
  cases n with
  | zero => exact absurd rfl hz
  | succ n => rfl

/-- The proof data of the pipeline on core `c`: the arrays as the region finds them; each input's buffer at its block,
    each output's at its named contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => xcv m c (tA t)
    | ⟨10, _⟩ => crv m c (tA t)
    | ⟨11, _⟩ => zv m c t
    | ⟨12, _⟩ => xdv m c (tA t).val (tA t).isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = xcv m c (tA t) := by dsimp only [dats]
theorem after0_10 (c : Dev nD) (t : Fin cfg0.N) : (dats m 0 c).after 10 t = crv m c (tA t) := by dsimp only [dats]
theorem after0_11 (c : Dev nD) (t : Fin cfg0.N) : (dats m 0 c).after 11 t = zv m c t := by dsimp only [dats]
theorem after0_12 (c : Dev nD) (t : Fin cfg0.N) : (dats m 0 c).after 12 t = xdv m c (tA t).val (tA t).isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## Where the outputs' windows are idle, fresh and written back -/

/-- At a point of the first half the resident block is the point's own, -/
theorem tA_of_lt (t : Fin cfg0.N) (h : t.val < 16) : tA t = t := Fin.ext (Nat.min_eq_left (by omega))

/-- and at a point of the second half it is the point before's. -/
theorem tA_of_ge (t : Fin cfg0.N) (h : 16 ≤ t.val) (h' : t.val - 1 < cfg0.N) : tA ⟨t.val - 1, h'⟩ = tA t :=
  Fin.ext (by show min (t.val - 1) 15 = min t.val 15; omega)

theorem live_9 : ∀ t : Fin cfg0.N, t.val < 16 → cfg0.idle 9 (grid0.coords t) = false :=
  (by decide +kernel : ∀ t : Fin grid0.N, t.val < 16 → cfg0.idle 9 (grid0.coords t) = false)
theorem idle_9 : ∀ t : Fin cfg0.N, 16 ≤ t.val → cfg0.idle 9 (grid0.coords t) = true :=
  (by decide +kernel : ∀ t : Fin grid0.N, 16 ≤ t.val → cfg0.idle 9 (grid0.coords t) = true)
theorem live_10 : ∀ t : Fin cfg0.N, t.val < 16 → cfg0.idle 10 (grid0.coords t) = false :=
  (by decide +kernel : ∀ t : Fin grid0.N, t.val < 16 → cfg0.idle 10 (grid0.coords t) = false)
theorem idle_10 : ∀ t : Fin cfg0.N, 16 ≤ t.val → cfg0.idle 10 (grid0.coords t) = true :=
  (by decide +kernel : ∀ t : Fin grid0.N, 16 ≤ t.val → cfg0.idle 10 (grid0.coords t) = true)
theorem live_12 : ∀ t : Fin cfg0.N, t.val < 16 → cfg0.idle 12 (grid0.coords t) = false :=
  (by decide +kernel : ∀ t : Fin grid0.N, t.val < 16 → cfg0.idle 12 (grid0.coords t) = false)
theorem idle_12 : ∀ t : Fin cfg0.N, 16 ≤ t.val → cfg0.idle 12 (grid0.coords t) = true :=
  (by decide +kernel : ∀ t : Fin grid0.N, 16 ≤ t.val → cfg0.idle 12 (grid0.coords t) = true)
theorem live_11 : ∀ t : Fin cfg0.N, 16 ≤ t.val → cfg0.idle 11 (grid0.coords t) = false :=
  (by decide +kernel : ∀ t : Fin grid0.N, 16 ≤ t.val → cfg0.idle 11 (grid0.coords t) = false)
theorem idle_11 : ∀ t : Fin cfg0.N, t.val < 16 → cfg0.idle 11 (grid0.coords t) = true :=
  (by decide +kernel : ∀ t : Fin grid0.N, t.val < 16 → cfg0.idle 11 (grid0.coords t) = true)
theorem noflush_11 : ∀ t : Fin cfg0.N, t.val < 16 → (cfg0.win 11).flush t = false :=
  (by decide +kernel : ∀ t : Fin grid0.N, t.val < 16 → (cfg0.win 11).flush t = false)
theorem notFresh_9 : ∀ t : Fin cfg0.N, 16 ≤ t.val → cfg0.fresh 9 t.val = false :=
  (by decide +kernel : ∀ t : Fin grid0.N, 16 ≤ t.val → cfg0.fresh 9 t.val = false)
theorem notFresh_10 : ∀ t : Fin cfg0.N, 16 ≤ t.val → cfg0.fresh 10 t.val = false :=
  (by decide +kernel : ∀ t : Fin grid0.N, 16 ≤ t.val → cfg0.fresh 10 t.val = false)
theorem notFresh_12 : ∀ t : Fin cfg0.N, 1 ≤ t.val → cfg0.fresh 12 t.val = false :=
  (by decide +kernel : ∀ t : Fin grid0.N, 1 ≤ t.val → cfg0.fresh 12 t.val = false)

/-- The activated convolution's buffer carries through the points that leave it idle. -/
theorem hcarry_9 (c : Dev nD) (t : Fin cfg0.N) (ht : t.val ≠ 0) (hi : cfg0.idle 9 (grid0.coords t) = true) (_ : cfg0.fresh 9 t.val = false) :
    (dats m 0 c).after 9 t = (dats m 0 c).after 9 ⟨t.val - 1, by omega⟩ := by
  rw [after0_9, after0_9]
  by_cases h : t.val < 16
  · rw [live_9 t h] at hi; exact absurd hi Bool.false_ne_true
  · simp only [tA_of_ge t (by omega)]

/-- In the second half the buffer holds what is to be left in it. -/
theorem before_9_C (c : Dev nD) (t : Fin cfg0.N) (h : 16 ≤ t.val) (d) :
    (dats m 0 c).before 9 t d = (dats m 0 c).after 9 t := by
  rw [Dat.before_out_traj _ 9 rfl (fun _ _ => rfl) (hcarry_9 m c) t.val t rfl d,
    if_neg (by rw [notFresh_9 t (by omega)]; exact Bool.false_ne_true)]
  exact (hcarry_9 m c t (by omega) (idle_9 t h) (notFresh_9 t (by omega))).symm

/-- The kept row's buffer carries through the points that leave it idle. -/
theorem hcarry_10 (c : Dev nD) (t : Fin cfg0.N) (ht : t.val ≠ 0) (hi : cfg0.idle 10 (grid0.coords t) = true) (_ : cfg0.fresh 10 t.val = false) :
    (dats m 0 c).after 10 t = (dats m 0 c).after 10 ⟨t.val - 1, by omega⟩ := by
  rw [after0_10, after0_10]
  by_cases h : t.val < 16
  · rw [live_10 t h] at hi; exact absurd hi Bool.false_ne_true
  · simp only [tA_of_ge t (by omega)]

/-- In the second half the buffer holds what is to be left in it. -/
theorem before_10_C (c : Dev nD) (t : Fin cfg0.N) (h : 16 ≤ t.val) (d) :
    (dats m 0 c).before 10 t d = (dats m 0 c).after 10 t := by
  rw [Dat.before_out_traj _ 10 rfl (fun _ _ => rfl) (hcarry_10 m c) t.val t rfl d,
    if_neg (by rw [notFresh_10 t (by omega)]; exact Bool.false_ne_true)]
  exact (hcarry_10 m c t (by omega) (idle_10 t h) (notFresh_10 t (by omega))).symm

/-- The x-projection's sum's buffer carries through the points that leave it idle. -/
theorem hcarry_12 (c : Dev nD) (t : Fin cfg0.N) (ht : t.val ≠ 0) (hi : cfg0.idle 12 (grid0.coords t) = true) (_ : cfg0.fresh 12 t.val = false) :
    (dats m 0 c).after 12 t = (dats m 0 c).after 12 ⟨t.val - 1, by omega⟩ := by
  rw [after0_12, after0_12]
  by_cases h : t.val < 16
  · rw [live_12 t h] at hi; exact absurd hi Bool.false_ne_true
  · have e : tA ⟨t.val - 1, by omega⟩ = tA t := tA_of_ge t (by omega) _
    rw [e]

/-- In the second half the buffer holds what is to be left in it. -/
theorem before_12_C (c : Dev nD) (t : Fin cfg0.N) (h : 16 ≤ t.val) (d) :
    (dats m 0 c).before 12 t d = (dats m 0 c).after 12 t := by
  rw [Dat.before_out_traj _ 12 rfl (fun _ _ => rfl) (hcarry_12 m c) t.val t rfl d,
    if_neg (by rw [notFresh_12 t (by omega)]; exact Bool.false_ne_true)]
  exact (hcarry_12 m c t (by omega) (idle_12 t h) (notFresh_12 t (by omega))).symm

/-- At a later point of the first half the sum's buffer holds the sum up to the point before. -/
theorem before_12_B (c : Dev nD) (t : Fin cfg0.N) (h0 : t.val ≠ 0) (h : t.val < 16) (d) :
    (dats m 0 c).before 12 t d = xdv m c (t.val - 1) (Nat.lt_of_le_of_lt (Nat.sub_le _ _) t.isLt) := by
  rw [Dat.before_out_traj _ 12 rfl (fun _ _ => rfl) (hcarry_12 m c) t.val t rfl d,
    if_neg (by rw [notFresh_12 t (by omega)]; exact Bool.false_ne_true), after0_12]
  have e : tA ⟨t.val - 1, Nat.lt_of_le_of_lt (Nat.sub_le _ _) t.isLt⟩ = ⟨t.val - 1, Nat.lt_of_le_of_lt (Nat.sub_le _ _) t.isLt⟩ :=
    tA_of_lt _ (by show t.val - 1 < 16; omega)
  rw [e]

/-- The sum at a point after the first, one step of it unfolded. -/
theorem xdv_pos (c : Dev nD) (t : Fin cfg0.N) (h0 : t.val ≠ 0) :
    xdv m c t.val t.isLt = k0_pay6 (convv m c t) (xdv m c (t.val - 1) (Nat.lt_of_le_of_lt (Nat.sub_le _ _) t.isLt)) (iblk m c 7 t) := by
  obtain ⟨n, hn⟩ := t
  cases n with
  | zero => exact absurd rfl h0
  | succ n => rfl

/-- A window that holds what is to be left in it hands it back so, whether the point writes it back or not. -/
theorem leaves_of_before (c : Dev nD) (w : Fin cfg0.W) (t : Fin cfg0.N)
    (hi : cfg0.idle w (grid0.coords t) = true) (h : ∀ d, (dats m 0 c).before w t d = (dats m 0 c).after w t) (d) :
    (owns (c : Thread nD τ) ((cfg0.win w).stage (cfg0.slots t w)) fullShare ((dats m 0 c).before w t d) : sProp 𝕄)
      ⊢ (dats m 0 c).leavesExact w t := by
  cases hf : (cfg0.win w).flush t
  · rw [Dat.leavesExact_idle _ w t hi hf]
    iintro H; iexists d; iexact H
  · rw [h d]
    unfold Dat.leavesExact
    simp only [hf]
    split <;> exact .rfl

/-! ## The body obligation -/

/-- What the body is called with at point `t`, -/
def bodyPre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4800000 in
/-- The body at any point, by the three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [liveAt0_6 t], after0_6]
  rw [show (dats m 0 c).leavesExact 7 t = owns (c : Thread nD τ) (ms0_7 t) fullShare ((dats m 0 c).after 7 t) from by unfold Dat.leavesExact; rw [liveAt0_7 t], after0_7]
  rw [show (dats m 0 c).leavesExact 8 t = owns (c : Thread nD τ) (ms0_8 t) fullShare ((dats m 0 c).after 8 t) from by unfold Dat.leavesExact; rw [liveAt0_8 t], after0_8]
  by_cases h1 : t.val < 16
  · rw [show (dats m 0 c).leavesExact 9 t = owns (c : Thread nD τ) (ms0_9 t) fullShare ((dats m 0 c).after 9 t) from by unfold Dat.leavesExact; rw [live_9 t h1], after0_9]
    rw [show (dats m 0 c).leavesExact 10 t = owns (c : Thread nD τ) (ms0_10 t) fullShare ((dats m 0 c).after 10 t) from by unfold Dat.leavesExact; rw [live_10 t h1], after0_10]
    rw [show (dats m 0 c).leavesExact 12 t = owns (c : Thread nD τ) (ms0_12 t) fullShare ((dats m 0 c).after 12 t) from by unfold Dat.leavesExact; rw [live_12 t h1], after0_12]
    rw [Dat.leavesExact_idle _ 11 t (idle_11 t h1) (noflush_11 t h1), tA_of_lt t h1]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_A c (grid0.coords t) _ _ _ _ _ _ _ _ _ _ _ _ _ _ _ _ _ _ _ _ _ _ _ _ _ _ _ _ ((hcond0_0 t).mpr (by omega)) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) ((dats m 0 c).before 11 t d11) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexists _; iexact H12
      isplitl [HS0]; · iexact HS0
      have ht : t = tZ := Fin.ext hz
      subst ht
      iintro ⟨H0, H1, H2, H3, H4, H5, H6, H7, H8, H9, H10, H11, H12, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists d11; iexact H11
      iexact H12
    · rw [PhiS_castSucc m c t, PhiS_pos m c _ _ hz, xdv_pos m c t hz]
      simp only [before_12_B m c t hz h1]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_B c (grid0.coords t) _ _ _ _ _ _ _ _ _ _ _ _ _ _ _ _ _ _ _ _ _ _ _ _ _ _ _ _ (fun h => absurd ((hcond0_0 t).mp h) (by omega)) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) ((dats m 0 c).before 11 t d11) (xdv m c (t.val - 1) (Nat.lt_of_le_of_lt (Nat.sub_le _ _) t.isLt)) (xnv m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexact H12
      isplitl [HS0]; · iexact HS0
      iintro ⟨H0, H1, H2, H3, H4, H5, H6, H7, H8, H9, H10, H11, H12, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists d11; iexact H11
      iexact H12
  · have h2 : 16 ≤ t.val := by omega
    rw [show (dats m 0 c).leavesExact 11 t = owns (c : Thread nD τ) (ms0_11 t) fullShare ((dats m 0 c).after 11 t) from by unfold Dat.leavesExact; rw [live_11 t h2], after0_11]
    rw [PhiS_castSucc m c t, PhiS_pos m c _ _ (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_C c (grid0.coords t) _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr h2) (iblk m c 0 t) (iblk m c 1 t) (iblk m c 2 t) (iblk m c 3 t) (iblk m c 4 t) (iblk m c 5 t) (iblk m c 6 t) (iblk m c 7 t) (iblk m c 8 t) ((dats m 0 c).before 9 t d9) ((dats m 0 c).before 10 t d10) ((dats m 0 c).before 12 t d12) (xnv m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [HS0]; · iexact HS0
    iintro ⟨H0, H1, H2, H3, H4, H5, H6, H7, H8, H9, H10, H11, H12, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves_of_before m c 9 t (idle_9 t h2) (before_9_C m c t h2) d9); iexact H9
    isplitl [H10]; · iapply (leaves_of_before m c 10 t (idle_10 t h2) (before_10_C m c t h2) d10); iexact H10
    isplitl [H11]; · iexact H11
    iapply (leaves_of_before m c 12 t (idle_12 t h2) (before_12_C m c t h2) d12); iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the run ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.InProjIdeal.Hand

end
-- ==== Proof.InProjRefRead.lean ====
/- The in-projection's reference, its result terms named step by step and read at an index. -/
module

public import proofs.«01_k».proof.Proof.Gen.InProjRefIdeal.Run
public import Idealize.ShloMosaic.Lib.Pointwise
public import Idealize.ShloMosaic.Lib.Pipeline.ValueKit

@[expose] public section

set_option maxRecDepth 16384

noncomputable section

namespace Cert.InProjRefIdeal.Hand

open Cert.InProjRefIdeal Cert.InProjRefIdeal.Gen
open Idealize.ShloMosaic Idealize.ShloMosaic.TcCoe Idealize.SL.Sem

/-- The gather of whole slabs `x[slot]` of a rank-3 array, read at an index: slab `idx[b]`, read signed and clamped into
    the array. -/
theorem gather_slab {α : Type} {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (b : Fin R) (i : Fin A) (j : Fin B) :
    Host.gather (⟨[1, 2], [0], [], [], [0], 1, ![1, A, B], wf⟩ : GatherDims ⟨3, ![N, A, B]⟩ ⟨2, ![R, 1]⟩ ⟨3, ![R, A, B]⟩) x idx (ix3 b i j)
      = x (ix3 ⟨min (idx (ix2 b 0)).toInt.toNat (N - 1), by omega⟩ i j) := by
  unfold Host.gather
  congr 1
  funext a
  refine Fin.ext ?_
  generalize hd : (⟨[1, 2], [0], [], [], [0], 1, ![1, A, B], wf⟩ : GatherDims ⟨3, ![N, A, B]⟩ ⟨2, ![R, 1]⟩ ⟨3, ![R, A, B]⟩) = d
  show d.start (ix3 b i j) idx a + d.batchCoord (ix3 b i j) a + d.offCoord (ix3 b i j) a = _
  subst hd
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ ([0] : List (Fin 3)) from List.mem_singleton.mpr rfl)]
    refine congrArg (fun z => min (idx z).toInt.toNat (N - 1)) ?_
    funext c; refine Fin.ext ?_
    match c with
    | ⟨0, _⟩ => rfl
    | ⟨1, _⟩ => rfl
  | ⟨1, _⟩ =>
    unfold GatherDims.start
    rw [dif_neg (fun h => Nat.one_ne_zero (congrArg Fin.val (List.mem_singleton.mp h)))]
    simp only [Nat.zero_add]
    rfl
  | ⟨2, _⟩ =>
    unfold GatherDims.start
    rw [dif_neg (fun h => (by decide : (2 : ℕ) ≠ 0) (congrArg Fin.val (List.mem_singleton.mp h)))]
    simp only [Nat.zero_add]
    rfl

/-- The normalised tokens. -/
def XN (x : FVec Ideal S64x1x4096 .bf16) (g : FVec Ideal S4096 .f32) : FVec Ideal S64x4096 .bf16 :=
  truncf .bf16 (mulf (Host.divf (shapeCast _ (extf .f32 x bitsLt_bf16_f32) shapeCasts_S64x1x4096_S64x4096) (broadcastInDim S64x4096 ![0, 1] bcast_S64x1_S64x4096_0_1 (Host.sqrt (addf (Host.divf (broadcastInDim S64x1 ![0] bcast_S64_S64x1_0 (Host.reduceAdd (mulf (shapeCast _ (extf .f32 x bitsLt_bf16_f32) shapeCasts_S64x1x4096_S64x4096) (shapeCast _ (extf .f32 x bitsLt_bf16_f32) shapeCasts_S64x1x4096_S64x4096)) (constant S_ .f32 0x00000000#32) reducesTo_S64x4096_S64_d1 h_S_)) (broadcastInDim S64x1 ![] bcast_S_S64x1 (constant S_ .f32 0x45800000#32))) (broadcastInDim S64x1 ![] bcast_S_S64x1 (constant S_ .f32 0x358637BD#32)))))) (broadcastInDim S64x4096 ![0, 1] bcast_S1x4096_S64x4096_0_1 (broadcastInDim S1x4096 ![1] bcast_S4096_S1x4096_1 g))) bitsLt_bf16_f32

/-- The scaled in-projection: the convolution's input in the first 8192 columns, the gate in the others. -/
def XZ (xn : FVec Ideal S64x4096 .bf16) (w : IVec S4096x16384 8) (s : FVec Ideal S16384 .f32) : FVec Ideal S64x16384 .f32 :=
  mulf (Host.dotGeneral dot_S64x4096_S4096x16384_S64x16384_1_0_0_1_n_n none xn (sitofp .bf16 (extsi 32 w natLt_8_32))) (broadcastInDim S64x16384 ![0, 1] bcast_S1x16384_S64x16384_0_1 (broadcastInDim S1x16384 ![1] bcast_S16384_S1x16384_1 s))

/-- The gate. -/
def ZZ (xz : FVec Ideal S64x16384 .f32) : FVec Ideal S64x8192 .f32 :=
  extractStridedSlice S64x8192 ![0, 8192] xz slices_S64x16384_S64x8192_0_8192

/-- The row kept for the next step's convolution. -/
def CR (xz : FVec Ideal S64x16384 .f32) : FVec Ideal S64x8192 .bf16 :=
  truncf .bf16 (extractStridedSlice S64x8192 ![0, 0] xz slices_S64x16384_S64x8192_0_0) bitsLt_bf16_f32

/-- The pool's slabs of the tokens' slots. -/
def GP (pool : FVec Ideal S83x3x8192 .bf16) (slot : IVec S64 32) : FVec Ideal S64x3x8192 .bf16 :=
  Host.gather gather_S83x3x8192_S64x1_S64x3x8192_12_0_n_n_0_1_138192 pool (broadcastInDim S64x1 ![0] bcast_S64_S64x1_0 (select (cmpi .slt slot (broadcastInDim S64 ![] bcast_S_S64 (constantI S_ 32 0#32))) (addi slot (broadcastInDim S64 ![] bcast_S_S64 (constantI S_ 32 83#32))) slot))

/-- The convolution before the activation. -/
def CV (xz : FVec Ideal S64x16384 .f32) (gp : FVec Ideal S64x3x8192 .bf16) (cw : FVec Ideal S4x8192 .f32) (cb : FVec Ideal S8192 .f32) : FVec Ideal S64x8192 .f32 :=
  addf (addf (Host.reduceAdd (mulf (extf .f32 gp bitsLt_bf16_f32) (broadcastInDim S64x3x8192 ![0, 1, 2] bcast_S1x3x8192_S64x3x8192_0_1_2 (broadcastInDim S1x3x8192 ![1, 2] bcast_S3x8192_S1x3x8192_1_2 (extractStridedSlice S3x8192 ![0, 0] cw slices_S4x8192_S3x8192_0_0)))) (constant S_ .f32 0x00000000#32) reducesTo_S64x3x8192_S64x8192_d1 h_S_) (mulf (extractStridedSlice S64x8192 ![0, 0] xz slices_S64x16384_S64x8192_0_0) (broadcastInDim S64x8192 ![0, 1] bcast_S1x8192_S64x8192_0_1 (broadcastInDim S1x8192 ![1] bcast_S8192_S1x8192_1 (shapeCast _ (extractStridedSlice S1x8192 ![3, 0] cw slices_S4x8192_S1x8192_3_0) shapeCasts_S1x8192_S8192))))) (broadcastInDim S64x8192 ![0, 1] bcast_S1x8192_S64x8192_0_1 (broadcastInDim S1x8192 ![1] bcast_S8192_S1x8192_1 cb))

/-- The activated convolution. -/
def XC (cv : FVec Ideal S64x8192 .f32) : FVec Ideal S64x8192 .f32 :=
  mulf cv (Host.divf (broadcastInDim S64x8192 ![] bcast_S_S64x8192 (constant S_ .f32 0x3F800000#32)) (addf (broadcastInDim S64x8192 ![] bcast_S_S64x8192 (constant S_ .f32 0x3F800000#32)) (Host.exp (Host.negf cv))))

/-- The x-projection, transposed. -/
def XD (xc : FVec Ideal S64x8192 .f32) (wx : FVec Ideal S8192x288 .f32) : FVec Ideal S288x64 .f32 :=
  transpose S288x64 [1, 0] (Host.dotGeneral dot_S64x8192_S8192x288_S64x288_1_0_0_1_n_n (some .fp32) xc wx) transposes_S64x288_S288x64_1_0

/-- A word below 83 names a slab of the pool, read as it is. -/
theorem gp_at (pool : FVec Ideal S83x3x8192 .bf16) (slot : IVec S64 32) (b : Fin 64) (i : Fin 3) (j : Fin 8192)
    (h : (slot (ix1 b)).toNat < 83) :
    GP pool slot (ix3 b i j) = pool (ix3 ⟨(slot (ix1 b)).toNat, h⟩ i j) := by
  unfold GP
  refine (gather_slab (by decide) _ _ _ b i j).trans ?_
  have e : ∀ w : BitVec 32, w.toNat < 83 → (Scalar.select (IntOp.cmpi .slt w 0#32) (IntOp.addi w 83#32) w) = w := by
    intro w hw
    have : w.slt 0#32 = false := by
      simp only [BitVec.slt, BitVec.toInt, BitVec.toNat_ofNat, decide_eq_false_iff_not]; omega
    simp only [IntOp.cmpi, this, Scalar.select]; rfl
  have hi : (slot (ix1 b)).toInt.toNat = (slot (ix1 b)).toNat := by
    simp only [BitVec.toInt]; omega
  congr 2
  refine Fin.ext ?_
  pointwise
  rw [e _ h, hi]
  exact Nat.min_eq_left (by omega)

variable (m : (ℓ : Loc nD τ sig) → Buf (Elt Ideal) ℓ)

/-- The reference's arguments, read. -/
abbrev xzOf (c : Dev nD) : FVec Ideal S64x16384 .f32 := XZ (XN (m ((c.tc : Thread nD τ).loc main_arg0)) (m ((c.tc : Thread nD τ).loc main_arg1))) (m ((c.tc : Thread nD τ).loc main_arg2)) (m ((c.tc : Thread nD τ).loc main_arg3))
abbrev cvOf (c : Dev nD) : FVec Ideal S64x8192 .f32 := CV (xzOf m c) (GP (m ((c.tc : Thread nD τ).loc main_arg4)) (m ((c.tc : Thread nD τ).loc main_arg8))) (m ((c.tc : Thread nD τ).loc main_arg5)) (m ((c.tc : Thread nD τ).loc main_arg6))

/-- The reference's run, its results in these terms. -/
theorem run (ρ : Dev nD → PrngReg) :
    θ_run defs (onTc (τ := τ) (main (F := Ideal))) ⟨m, fun _ => 0, ρ⟩ fun r => ∀ c : Dev nD,
      r.2.mem ((c.tc : Thread nD τ).loc main_v46) = XC (cvOf m c)
      ∧ r.2.mem ((c.tc : Thread nD τ).loc main_v47) = CR (xzOf m c)
      ∧ r.2.mem ((c.tc : Thread nD τ).loc main_v23) = ZZ (xzOf m c)
      ∧ r.2.mem ((c.tc : Thread nD τ).loc main_v49) = XD (XC (cvOf m c)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (by unfold Value.res_main_v46; rfl), (h c).2.1.trans rfl, (h c).2.2.1.trans rfl,
    (h c).2.2.2.1.trans (by unfold Value.res_main_v49; rfl), (h c).2.2.2.2⟩) (Value.run m ρ)

end Cert.InProjRefIdeal.Hand

end
-- ==== Proof.InProjValue.lean ====
/- The in-projection's payloads read at an index, against the reference's terms. -/
module

public import proofs.«01_k».proof.Proof.InProjPipe
public import proofs.«01_k».proof.Proof.InProjRefRead

@[expose] public section

set_option maxRecDepth 16384

noncomputable section

namespace Cert.InProjIdeal.Hand

open Cert.InProjIdeal Cert.InProjIdeal.Gen
open Idealize.ShloMosaic Idealize.ShloMosaic.TcCoe Idealize.SL.Sem
open Idealize.ShloMosaic.Pipeline (Dat)
open Cert.InProjRefIdeal.Hand (XN XZ ZZ CR GP CV XC XD)

variable (m : (ℓ : Loc nD τ sig) → Buf (Elt Ideal) ℓ)

/-- The windows' block indices at the grid's points. -/
theorem idx : ∀ t : Fin cfg0.N, win0_0.index t = ![0, 0] ∧ win0_1.index t = ![0, 0] ∧ win0_2.index t = ![0, t.val] ∧ win0_3.index t = ![0, t.val]
    ∧ win0_4.index t = ![0, 0, min t.val 15] ∧ win0_5.index t = ![0, min t.val 15] ∧ win0_6.index t = ![0, min t.val 15]
    ∧ win0_7.index t = ![0, min t.val 15] ∧ win0_8.index t = ![0, 0] ∧ win0_9.index t = ![0, min t.val 15] ∧ win0_10.index t = ![0, min t.val 15]
    ∧ win0_11.index t = ![0, t.val - 16] ∧ win0_12.index t = ![0, 0] :=
  (by decide +kernel : ∀ t : Fin grid0.N, _)

/-- An 8-bit integer widened to 32 bits is the same number. -/
theorem sitofp_signExtend (φ : FTy) (w : BitVec 8) : (FloatOps.sitofp (F := Ideal) φ (BitVec.signExtend 32 w)) = FloatOps.sitofp (F := Ideal) φ w := by
  show (((BitVec.signExtend 32 w).toInt : ℝ) : EReal) = ((w.toInt : ℝ) : EReal)
  rw [BitVec.toInt_signExtend_of_le (by decide)]

/-- A row that is one at one place and zero elsewhere picks that place. -/
theorem onehot_sum (s : BitVec 32) (h : s.toNat < 83) (f : Fin 83 → EReal) :
    ∑ x : Fin 83, (FloatOps.sitofp (F := Ideal) .f32 (BitVec.setWidth 32 (IntOp.cmpi CmpIPredicate.eq (BitVec.ofNat 32 ↑x) s)) : EReal) * f x
      = f ⟨s.toNat, h⟩ := by
  rw [Finset.sum_eq_single (⟨s.toNat, h⟩ : Fin 83)]
  · have e : BitVec.ofNat 32 s.toNat = s := by simp
    have : (FloatOps.sitofp (F := Ideal) .f32 (BitVec.setWidth 32 (IntOp.cmpi CmpIPredicate.eq (BitVec.ofNat 32 s.toNat) s)) : EReal) = 1 := by
      rw [e]
      show (((BitVec.setWidth 32 (IntOp.cmpi CmpIPredicate.eq s s)).toInt : ℝ) : EReal) = 1
      simp [IntOp.cmpi]
    rw [this, one_mul]
  · intro x _ hx
    have hne : (BitVec.ofNat 32 ↑x == s) = false := by
      rw [beq_eq_false_iff_ne]
      intro e
      refine hx (Fin.ext ?_)
      have := congrArg BitVec.toNat e
      rw [BitVec.toNat_ofNat] at this
      show x.val = s.toNat
      omega
    have : (FloatOps.sitofp (F := Ideal) .f32 (BitVec.setWidth 32 (IntOp.cmpi CmpIPredicate.eq (BitVec.ofNat 32 ↑x) s)) : EReal) = 0 := by
      show (((BitVec.setWidth 32 (IntOp.cmpi CmpIPredicate.eq (BitVec.ofNat 32 ↑x) s)).toInt : ℝ) : EReal) = 0
      simp [IntOp.cmpi, hne]
    rw [this, zero_mul]
  · intro h'; exact absurd (Finset.mem_univ _) h'

/-- What the scratch holds is the reference's normalised tokens. -/
theorem xnv_eq (c : Dev nD) : xnv m c = XN (m ((c : Thread nD τ).loc main_arg0)) (m ((c : Thread nD τ).loc main_arg1)) := by
  funext j
  pointwise [xnv, k0_pay1, XN]
  blk_point [iblk, V, idx tZ]

/-- The argument arrays' in-projection. -/
abbrev xz (c : Dev nD) : FVec Ideal Cert.InProjRefIdeal.S64x16384 .f32 :=
  XZ (XN (m ((c : Thread nD τ).loc main_arg0)) (m ((c : Thread nD τ).loc main_arg1))) (m ((c : Thread nD τ).loc main_arg2)) (m ((c : Thread nD τ).loc main_arg3))

/-- A point's block of the in-projection. -/
theorem zv_at (c : Dev nD) (t : Fin cfg0.N) (b : Fin 64) (e : Fin 512) (h : t.val * 512 + e.val < 16384) :
    zv m c t (ix2 b e) = xz m c (ix2 b ⟨t.val * 512 + e.val, h⟩) := by
  unfold zv
  rw [xnv_eq]
  pointwise [k0_pay3, XZ]
  simp only [sitofp_signExtend]
  blk_point [iblk, V, idx t]

/-- A row of the weights, read. -/
theorem cwRow_at (k : ℕ) (hk : k < 4) (inb) (x5 : FVec Ideal S4x512 .f32) (e : Fin 512) : cwRow (F := Ideal) k inb x5 (ix2 0 e) = x5 (ix2 ⟨k, hk⟩ e) := by
  refine congrArg x5 ?_
  funext a; refine Fin.ext ?_
  match a with
  | ⟨0, _⟩ => show k + 1 * 0 = k; omega
  | ⟨1, _⟩ => show 0 + 1 * e.val = e.val; omega

/-- A tap's slab of the pool, read. -/
theorem poolTap_at (k : ℕ) (hk : k < 3) (inb) (x4 : FVec Ideal S3x83x512 .bf16) (x : Fin 83) (e : Fin 512) : poolTap (F := Ideal) k inb x4 (ix3 0 x e) = x4 (ix3 ⟨k, hk⟩ x e) := by
  refine congrArg x4 ?_
  funext a; refine Fin.ext ?_
  match a with
  | ⟨0, _⟩ => show k + 1 * 0 = k; omega
  | ⟨1, _⟩ => show 0 + 1 * x.val = x.val; omega
  | ⟨2, _⟩ => show 0 + 1 * e.val = e.val; omega

/-- The convolution at one point with the slots in the pool: the three taps of the token's slab. -/
theorem conv_at (xn : FVec Ideal S64x4096 .bf16) (x2 : IVec S4096x512 8) (x3 : FVec Ideal S1x512 .f32) (x4 : FVec Ideal S3x83x512 .bf16) (x5 : FVec Ideal S4x512 .f32) (x6 : FVec Ideal S1x512 .f32) (x8 : IVec S64x1 32) (b : Fin 64) (e : Fin 512)
    (h : (x8 (ix2 b 0)).toNat < 83) :
    convPre (F := Ideal) xn x2 x3 x4 x5 x6 x8 (ix2 b e)
      = ((x6 (ix2 0 e) + k0_pay3 (F := Ideal) xn x2 x3 (ix2 b e) * x5 (ix2 3 e) + x4 (ix3 0 ⟨_, h⟩ e) * x5 (ix2 0 e)) + x4 (ix3 1 ⟨_, h⟩ e) * x5 (ix2 1 e))
        + x4 (ix3 2 ⟨_, h⟩ e) * x5 (ix2 2 e) := by
  unfold convPre
  generalize h0 : cwRow (F := Ideal) 0 _ x5 = c0
  generalize h1 : cwRow (F := Ideal) 1 _ x5 = c1
  generalize h2 : cwRow (F := Ideal) 2 _ x5 = c2
  generalize h3 : cwRow (F := Ideal) 3 _ x5 = c3
  generalize p0 : poolTap (F := Ideal) 0 _ x4 = q0
  generalize p1 : poolTap (F := Ideal) 1 _ x4 = q1
  generalize p2 : poolTap (F := Ideal) 2 _ x4 = q2
  pointwise [k0_pay7]
  rw [onehot_sum _ h, onehot_sum _ h, onehot_sum _ h]
  subst h0 h1 h2 h3 p0 p1 p2
  rw [cwRow_at 0 (by decide), cwRow_at 1 (by decide), cwRow_at 2 (by decide), cwRow_at 3 (by decide), poolTap_at 0 (by decide), poolTap_at 1 (by decide), poolTap_at 2 (by decide)]
  rfl

end Cert.InProjIdeal.Hand

end
-- ==== Proof.InProjFinal.lean ====
/- The in-projection's four result arrays: each is the reference's term of the argument arrays. -/
module

public import proofs.«01_k».proof.Proof.InProjValue
public import Idealize.ShloMosaic.Lib.Claim

@[expose] public section

set_option maxRecDepth 16384

noncomputable section

namespace Cert.InProjIdeal.Hand

open Cert.InProjIdeal Cert.InProjIdeal.Gen
open Idealize.ShloMosaic Idealize.ShloMosaic.TcCoe Idealize.SL.Sem
open Idealize.ShloMosaic.Pipeline (Dat)
open Cert.InProjRefIdeal.Hand (XN XZ ZZ CR GP CV XC XD)

variable (m : (ℓ : Loc nD τ sig) → Buf (Elt Ideal) ℓ)

/-! ## The inputs' blocks of a point of the first half, read from the argument arrays -/

theorem rd4 (c : Dev nD) (t : Fin cfg0.N) (i : Fin 3) (p : Fin 83) (e : Fin 512) (h : min t.val 15 * 512 + e.val < 8192) :
    (show FVec Ideal S3x83x512 .bf16 from iblk m c 4 t) (ix3 i p e) = (show FVec Ideal S83x3x8192 .bf16 from m ((c : Thread nD τ).loc main_arg4)) (ix3 p i ⟨min t.val 15 * 512 + e.val, h⟩) := by
  blk_point [iblk, V, idx t]

theorem rd5 (c : Dev nD) (t : Fin cfg0.N) (i : Fin 4) (e : Fin 512) (h : min t.val 15 * 512 + e.val < 8192) :
    (show FVec Ideal S4x512 .f32 from iblk m c 5 t) (ix2 i e) = (show FVec Ideal S4x8192 .f32 from m ((c : Thread nD τ).loc main_arg5)) (ix2 i ⟨min t.val 15 * 512 + e.val, h⟩) := by
  blk_point [iblk, V, idx t]

theorem rd6 (c : Dev nD) (t : Fin cfg0.N) (e : Fin 512) (h : min t.val 15 * 512 + e.val < 8192) :
    (show FVec Ideal S1x512 .f32 from iblk m c 6 t) (ix2 0 e) = (show FVec Ideal S8192 .f32 from m ((c : Thread nD τ).loc main_arg6)) (ix1 ⟨min t.val 15 * 512 + e.val, h⟩) := by
  blk_point [iblk, V, idx t]

theorem rd7 (c : Dev nD) (t : Fin cfg0.N) (j : Fin 288) (e : Fin 512) (h : min t.val 15 * 512 + e.val < 8192) :
    (show FVec Ideal S288x512 .f32 from iblk m c 7 t) (ix2 j e) = (show FVec Ideal S8192x288 .f32 from m ((c : Thread nD τ).loc main_arg7)) (ix2 ⟨min t.val 15 * 512 + e.val, h⟩ j) := by
  blk_point [iblk, V, idx t]

theorem rd8 (c : Dev nD) (t : Fin cfg0.N) (b : Fin 64) :
    (show IVec S64x1 32 from iblk m c 8 t) (ix2 b 0) = (show IVec S64 32 from m ((c : Thread nD τ).loc main_arg8)) (ix1 b) := by
  blk_point [iblk, V, idx t]

/-! ## The results, block by block -/

/-- Every token's slot names a slab of the pool. -/
def InPool (c : Dev nD) : Prop := ∀ b : Fin 64, ((show IVec S64 32 from m ((c : Thread nD τ).loc main_arg8)) (ix1 b)).toNat < 83

/-- The reference's convolution over the argument arrays. -/
abbrev cv (c : Dev nD) : FVec Ideal Cert.InProjRefIdeal.S64x8192 .f32 :=
  CV (xz m c) (GP (m ((c : Thread nD τ).loc main_arg4)) (m ((c : Thread nD τ).loc main_arg8))) (m ((c : Thread nD τ).loc main_arg5)) (m ((c : Thread nD τ).loc main_arg6))

/-- The kernel's order of the convolution's five terms against the reference's. -/
theorem reorder (f d a b c : EReal) : (((f + d) + a) + b) + c = ((a + b + c) + d) + f := by ac_rfl

/-- A point's block of the convolution, for slots in the pool. -/
theorem convv_at (c : Dev nD) (hs : InPool m c) (t : Fin cfg0.N) (ht : t.val < 16) (b : Fin 64) (e : Fin 512) (h : t.val * 512 + e.val < 8192) :
    convv m c t (ix2 b e) = cv m c (ix2 b ⟨t.val * 512 + e.val, h⟩) := by
  have hm : min t.val 15 = t.val := Nat.min_eq_left (by omega)
  have hx : ((show IVec S64x1 32 from iblk m c 8 t) (ix2 b 0)).toNat < 83 := by rw [rd8]; exact hs b
  have hsl : (⟨((show IVec S64x1 32 from iblk m c 8 t) (ix2 b 0)).toNat, hx⟩ : Fin 83) = ⟨_, hs b⟩ := Fin.ext (congrArg BitVec.toNat (rd8 m c t b))
  have hz := zv_at m c t b e (by omega)
  unfold zv at hz
  unfold convv
  refine (conv_at (xnv m c) (iblk m c 2 t) (iblk m c 3 t) (iblk m c 4 t) (iblk m c 5 t) (iblk m c 6 t) (iblk m c 8 t) b e hx).trans ?_
  rw [hz, hsl]
  have r4 := fun i => rd4 m c t i ⟨_, hs b⟩ e (by omega)
  have r5 := fun i => rd5 m c t i e (by omega)
  have r6 := rd6 m c t e (by omega)
  simp only [hm] at r4 r5 r6
  refine (congrArg₂ (· + ·) (congrArg₂ (· + ·) (congrArg₂ (· + ·) (congrArg₂ (· + ·) r6 (congrArg₂ (· * ·) rfl (r5 3))) (congrArg₂ (· * ·) (r4 0) (r5 0)))
    (congrArg₂ (· * ·) (r4 1) (r5 1))) (congrArg₂ (· * ·) (r4 2) (r5 2))).trans ?_
  pointwise [cv, CV]
  rw [Fin.sum_univ_three]
  rw [Cert.InProjRefIdeal.Hand.gp_at _ _ b 0 _ (hs b), Cert.InProjRefIdeal.Hand.gp_at _ _ b 1 _ (hs b), Cert.InProjRefIdeal.Hand.gp_at _ _ b 2 _ (hs b)]
  exact reorder _ _ _ _ _

/-- What the body leaves of the activated convolution is the reference's, element by element. -/
theorem pay4_eq (v : FVec Ideal S64x512 .f32) (w : FVec Ideal Cert.InProjRefIdeal.S64x8192 .f32) (b : Fin 64) (e : Fin 512) (n : Fin 8192)
    (h : v (ix2 b e) = w (ix2 b n)) : k0_pay4 (F := Ideal) v (ix2 b e) = XC w (ix2 b n) := by
  pointwise [k0_pay4, XC]
  rw [h]; rfl

/-- The activated convolution's array at the end. -/
theorem final9 (c : Dev nD) (hs : InPool m c) : (dats m 0 c).arrAt 9 cfg0.N = XC (cv m c) := by
  refine (dats m 0 c).arrAt_eq_of_covers 9 _ (by decide +kernel) fun t _ y => ?_
  blk_simp
  rw [after0_9]
  obtain ⟨b, e, rfl⟩ : ∃ (b : Fin 64) (e : Fin 512), y = ix2 b e := ⟨y 0, y 1, eq_ix2 y⟩
  have h : (tA t).val * 512 + e.val < 8192 := by have : (tA t).val ≤ 15 := Nat.min_le_right _ _; omega
  refine (pay4_eq _ (cv m c) b e ⟨_, h⟩ (convv_at m c hs (tA t) (by have : (tA t).val ≤ 15 := Nat.min_le_right _ _; omega) b e h)).trans ?_
  blk_ext [idx t, tA]

/-- The kept row's array at the end. -/
theorem final10 (c : Dev nD) : (dats m 0 c).arrAt 10 cfg0.N = CR (xz m c) := by
  refine (dats m 0 c).arrAt_eq_of_covers 10 _ (by decide +kernel) fun t _ y => ?_
  blk_simp
  rw [after0_10]
  obtain ⟨b, e, rfl⟩ : ∃ (b : Fin 64) (e : Fin 512), y = ix2 b e := ⟨y 0, y 1, eq_ix2 y⟩
  have h : (tA t).val * 512 + e.val < 16384 := by have : (tA t).val ≤ 15 := Nat.min_le_right _ _; omega
  pointwise [crv, k0_pay5, CR]
  refine (zv_at m c (tA t) b e h).trans ?_
  blk_ext [idx t, tA]

/-- The gate's array at the end. -/
theorem final11 (c : Dev nD) : (dats m 0 c).arrAt 11 cfg0.N = ZZ (xz m c) := by
  refine (dats m 0 c).arrAt_eq_of_covers 11 _ (by decide +kernel) fun t hf y => ?_
  have h16 : 16 ≤ t.val := by
    by_contra hlt
    rw [noflush_11 t (by omega)] at hf
    exact Bool.false_ne_true hf
  have hN : t.val < 32 := lt_of_lt_of_eq t.isLt (show cfg0.N = 32 from N_0)
  blk_simp
  rw [after0_11]
  obtain ⟨b, e, rfl⟩ : ∃ (b : Fin 64) (e : Fin 512), y = ix2 b e := ⟨y 0, y 1, eq_ix2 y⟩
  pointwise [ZZ]
  refine (zv_at m c t b e (by omega)).trans ?_
  blk_ext [idx t]

/-- One step of the x-projection's sum, read. -/
theorem pay6_at (v : FVec Ideal S64x512 .f32) (acc : FVec Ideal S288x64 .f32) (wx : FVec Ideal S288x512 .f32) (j : Fin 288) (b : Fin 64) :
    k0_pay6 (F := Ideal) v acc wx (ix2 j b) = acc (ix2 j b) + ∑ e : Fin 512, wx (ix2 j e) * k0_pay4 (F := Ideal) v (ix2 b e) := by
  pointwise [k0_pay6]

/-- The reference's x-projection, read. -/
theorem XD_at (X : FVec Ideal Cert.InProjRefIdeal.S64x8192 .f32) (W : FVec Ideal Cert.InProjRefIdeal.S8192x288 .f32) (j : Fin 288) (b : Fin 64) :
    XD X W (ix2 j b) = ∑ l : Fin 8192, X (ix2 b l) * W (ix2 l j) := by
  pointwise [XD]

/-- The x-projection's sum up to a point of the first half, as a sum over the channels seen so far. -/
theorem xdv_at (c : Dev nD) (hs : InPool m c) (n : ℕ) (hn : n < cfg0.N) (h16 : n < 16) (j : Fin 288) (b : Fin 64) :
    xdv m c n hn (ix2 j b) = ∑ p : Fin (n + 1), ∑ e : Fin 512,
      (show FVec Ideal S8192x288 .f32 from m ((c : Thread nD τ).loc main_arg7)) (ix2 ⟨p.val * 512 + e.val, by omega⟩ j) * XC (cv m c) (ix2 b ⟨p.val * 512 + e.val, by omega⟩) := by
  have part : ∀ (t : Fin cfg0.N) (ht : t.val < 16) (acc : FVec Ideal S288x64 .f32),
      k0_pay6 (F := Ideal) (convv m c t) acc (iblk m c 7 t) (ix2 j b) = acc (ix2 j b) + ∑ e : Fin 512,
        (show FVec Ideal S8192x288 .f32 from m ((c : Thread nD τ).loc main_arg7)) (ix2 ⟨t.val * 512 + e.val, by omega⟩ j) * XC (cv m c) (ix2 b ⟨t.val * 512 + e.val, by omega⟩) := by
    intro t ht acc
    have hm : min t.val 15 = t.val := Nat.min_eq_left (by omega)
    refine (pay6_at _ acc (iblk m c 7 t) j b).trans (congrArg₂ (· + ·) rfl (Finset.sum_congr rfl fun e _ => congrArg₂ (· * ·) ?_ ?_))
    · have r7 := rd7 m c t j e (by omega)
      simp only [hm] at r7
      exact r7
    · exact pay4_eq _ (cv m c) b e _ (convv_at m c hs t ht b e (by omega))
  induction n with
  | zero =>
    rw [Fin.sum_univ_one]
    refine (part ⟨0, hn⟩ h16 _).trans ?_
    have hz : k0_pay2 (F := Ideal) (ix2 j b) = 0 := by pointwise [k0_pay2]
    rw [hz, zero_add]; rfl
  | succ n ih =>
    rw [Fin.sum_univ_castSucc]
    refine (part ⟨n + 1, hn⟩ h16 _).trans ?_
    rw [ih (Nat.lt_of_succ_lt hn) (by omega) part]; rfl

/-- The x-projection's array at the end. -/
theorem final12 (c : Dev nD) (hs : InPool m c) : (dats m 0 c).arrAt 12 cfg0.N = XD (XC (cv m c)) (m ((c : Thread nD τ).loc main_arg7)) := by
  refine (dats m 0 c).arrAt_eq_of_covers 12 _ (by decide +kernel) fun t hf y => ?_
  have h31 : tA t = ⟨15, by rw [show cfg0.N = 32 from N_0]; omega⟩ :=
    (by decide +kernel : ∀ t : Fin grid0.N, (cfg0.win 12).flush t = true → (tA t).val = 15) t hf |> Fin.ext
  blk_simp
  rw [after0_12, h31]
  obtain ⟨j, b, rfl⟩ : ∃ (j : Fin 288) (b : Fin 64), y = ix2 j b := ⟨y 0, y 1, eq_ix2 y⟩
  refine (xdv_at m c hs 15 _ (by decide) j b).trans ?_
  have e : (((cfg0.win 12).blk t).view.emb (ix2 j b)) = ix2 j b := by blk_ext [idx t]
  refine Eq.trans ?_ (congrArg (XD (XC (cv m c)) (m ((c : Thread nD τ).loc main_arg7))) e).symm
  refine Eq.trans ?_ (XD_at _ _ j b).symm
  refine Fin.sum_mul_add_congr fun s k hl => ?_
  exact mul_comm _ _

/-! ## The run, its results named -/

/-- The kernel's run from any memory with the slots in the pool: the four results are the reference's terms of the
    arguments, which end unchanged. -/
theorem run_values (ρ : Dev nD → PrngReg) (hs : ∀ c, InPool m c) : θ_run defs (onTc (τ := τ) (main (F := Ideal))) ⟨m, fun _ => 0, ρ⟩ (fun r => ∀ c : Dev nD,
    r.2.mem ((c.tc : Thread nD τ).loc main_v7_0) = XC (cv m c)
    ∧ r.2.mem ((c.tc : Thread nD τ).loc main_v7_1) = CR (xz m c)
    ∧ r.2.mem ((c.tc : Thread nD τ).loc main_v7_2) = ZZ (xz m c)
    ∧ r.2.mem ((c.tc : Thread nD τ).loc main_v7_3) = XD (XC (cv m c)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun r h c => ⟨((h.1 c).1 9).trans (final9 m c (hs c)), ((h.1 c).1 10).trans (final10 m c), ((h.1 c).1 11).trans (final11 m c),
      ((h.1 c).1 12).trans (final12 m c (hs c)), h.2 c⟩)
    (θ_run_and (run_main m ρ) (unchanged m ρ))

end Cert.InProjIdeal.Hand

end
-- ==== Proof.InProjSame.lean ====
/- The call as the machine reads it and the call as the ideal reading prints it are one text: the two programs are
   equal term by term, so the ideal text's frame (proved over any reading of the floats) is the call's. -/
module

public import proofs.«01_k».proof.Proof.Gen.InProj.Frame
public import proofs.«01_k».proof.Proof.InProjPipe

@[expose] public section

set_option maxRecDepth 100000

noncomputable section

namespace Cert.InProj.Hand

open Idealize.ShloMosaic Idealize.SL.Sem

variable {F : FTy → Type} [FloatOps F]

/-- The two bodies are one text. -/
theorem body_eq : @Cert.InProj.cc0_in_proj F _ _ = @Cert.InProjIdeal.cc0_in_proj F _ _ := rfl

set_option maxHeartbeats 4000000 in
/-- The two body tables are one. -/
theorem bodies_eq : Cert.InProj.defs₀ (F := F) = Cert.InProjIdeal.defs₀ (F := F) := by
  unfold Cert.InProj.defs₀ Cert.InProjIdeal.defs₀
  refine congrArg (Defs.onTc (nD := Cert.InProj.nD) (τ := Cert.InProj.τ) (sig := Cert.InProj.sig) (Val := Elt F) (Λ := Cert.InProj.Λ₀)) (funext fun l => ?_)
  obtain ⟨l, hl⟩ := l
  obtain rfl : l = 0 := by omega
  funext ⟨t, s⟩
  change @Cert.InProj.cc0_in_proj F _ _ _ _ _ _ _ _ _ _ _ _ _ _ _ _ _ _ _ _ _ _ _ _ _ _ _ _ _ _ _ = _
  rw [body_eq]
  rfl

/-- The two programs' definitions are one. -/
theorem defs_eq : Cert.InProj.defs (F := F) = Cert.InProjIdeal.defs (F := F) :=
  congrArg (Pipeline.defs (Cert.InProj.pcfgs (F := F))) bodies_eq

/-- The two programs are one. -/
theorem main_eq : Cert.InProj.main (F := F) = Cert.InProjIdeal.main (F := F) := rfl

/-- The call's frame: it runs, its arguments end unchanged, every counter ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_eq]
  exact Cert.InProjIdeal.Hand.frame (F := F) m ρ

end Cert.InProj.Hand

end
-- ==== Proof.MoePoint.lean ====
/- What the expert kernel's body is called with at one grid point: the tables of the routing as the launch memory
   holds them, the names of the staging buffers, and the blocks of the inputs. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.TableIdle
public import Idealize.ShloMosaic.Lib.Pipeline.Value
public import Idealize.ShloMosaic.Lib.Pointwise.Index

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables as the body is handed them -/

/-- The four tables' buffers, whole: the experts in the order they are visited, how many of them have rows, and the
    first and the last row (excluded) of each expert's group. -/
abbrev tbM0_0 : Memref sig .tc .smem S16 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _
abbrev tbM0_2 : Memref sig .tc .smem S16 .i32 := Memref.whole main_arg2
abbrev htbM0_2 : tbM0_2.IsWhole := Memref.isWhole_whole _
abbrev tbM0_3 : Memref sig .tc .smem S16 .i32 := Memref.whole main_arg3
abbrev htbM0_3 : tbM0_3.IsWhole := Memref.isWhole_whole _

/-- A table's buffer on core `c`: its contents' type, and it held at half the full share at `f`. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The scratch operands: whole scoped buffers of the kernel's own, passed beside the windows. -/
abbrev scM0_0 : Memref sig .tc .vmem S64x4096 .bf16 := Memref.whole cc0_scratch0
abbrev scM0_1 : Memref sig .tc .vmem S64x4096 .f32 := Memref.whole cc0_scratch1

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The tables' halves the region hands the body, table by table. -/
theorem PhiT0_eq (c : Dev nD) (v : pre0.Contents (Elt F)) :
    (Pipeline.ΦT pre0 v c : sProp 𝕄) = iprop(tbPt0 c tbM0_0 (v 0) ∗ tbPt0 c tbM0_1 (v 1) ∗ tbPt0 c tbM0_2 (v 2) ∗ tbPt0 c tbM0_3 (v 3)) := by
  unfold Pipeline.ΦT Pipeline.prefHeld
  rw [bigSep_univ_eq_bigSepL [(0 : Fin 4), (1 : Fin 4), (2 : Fin 4), (3 : Fin 4)] (by decide) (by decide)]
  rfl

/-! ## Rectangles -/

/-- A load of a rectangle reads the contents at the rectangle's indices. -/
theorem readAt_block {sg : RefSig} {κ : Kind} {sp : Space} {s : Shape} {e : EltTy} (v : View sg κ sp s e) (f : v.ty.Contents (Elt F)) (r : Rect s) :
    v.readAt (Elt F) r.toLoadRect f = fun j => v.read (Elt F) f (r.emb j) := rfl

/-- Contents read over the whole rectangle are the contents. -/
theorem emb_all {S : Shape} {α : Type} (X : S.Idx → α) (off : Fin S.rank → ℕ) (inb : ∀ a, off a + S.size a ≤ S.size a) :
    (fun j => X ((Rect.unit off S.size inb).emb j)) = X := by
  funext j; congr 1; funext a; apply Fin.ext
  have h := inb a
  rw [Rect.emb_apply]
  show off a + 1 * (j a).val = (j a).val
  omega

/-! The same, with the sizes of the blocks this body loads whole written out. -/
theorem all_S64x4096 {α : Type} (X : S64x4096.Idx → α) : (fun j => X ((Rect.unit (s := S64x4096) ![0, 0] ![64, 4096] inb_S64x4096_S64x4096_0_0).emb j)) = X := emb_all X _ _
theorem all_S1x4096 {α : Type} (X : S1x4096.Idx → α) : (fun j => X ((Rect.unit (s := S1x4096) ![0, 0] ![1, 4096] inb_S1x4096_S1x4096_0_0).emb j)) = X := emb_all X _ _
theorem all_S64x2 {α : Type} (X : S64x2.Idx → α) : (fun j => X ((Rect.unit (s := S64x2) ![0, 0] ![64, 2] inb_S64x2_S64x2_0_0).emb j)) = X := emb_all X _ _
theorem all_S1x4096x512 {α : Type} (X : S1x4096x512.Idx → α) : (fun j => X ((Rect.unit (s := S1x4096x512) ![0, 0, 0] ![1, 4096, 512] inb_S1x4096x512_S1x4096x512_0_0_0).emb j)) = X := emb_all X _ _
theorem all_S1x1x512 {α : Type} (X : S1x1x512.Idx → α) : (fun j => X ((Rect.unit (s := S1x1x512) ![0, 0, 0] ![1, 1, 512] inb_S1x1x512_S1x1x512_0_0_0).emb j)) = X := emb_all X _ _
theorem all_S1x512x4096 {α : Type} (X : S1x512x4096.Idx → α) : (fun j => X ((Rect.unit (s := S1x512x4096) ![0, 0, 0] ![1, 512, 4096] inb_S1x512x4096_S1x512x4096_0_0_0).emb j)) = X := emb_all X _ _
theorem all_S1x1x4096 {α : Type} (X : S1x1x4096.Idx → α) : (fun j => X ((Rect.unit (s := S1x1x4096) ![0, 0, 0] ![1, 1, 4096] inb_S1x1x4096_S1x1x4096_0_0_0).emb j)) = X := emb_all X _ _

/-! ## The words the body reads from the tables -/

/-- The expert visited at a point. -/
def expertW (x : S16.Idx → BitVec 32) (i : grid0.Coords) : BitVec 32 := x (ix1 (n0 := 16) ⟨(i 0).val, (i 0).isLt⟩)

/-- A table's word for an expert (the last one where the number names none). -/
def groupW (x : S16.Idx → BitVec 32) (e : BitVec 32) : BitVec 32 := x (ix1 (n0 := 16) ⟨min e.toNat 15, Nat.lt_succ_of_le (Nat.min_le_right _ _)⟩)

/-- How many experts have rows. -/
def countW (x : S1.Idx → BitVec 32) : BitVec 32 := x (ix1 (n0 := 1) 0)

/-- A number that names an expert is a place in the groups' tables. -/
theorem chk_of (i : grid0.Coords) (v : BitVec 32) (w : BitVec 32) (h : w.toNat < 16) : k0_chk1 i v w := fun _ _ a => by
  have e : k0_off3 w a = w.toNat := by
    obtain rfl : a = 0 := Subsingleton.elim _ _
    simp [k0_off3, Scalar.indexCast]
  obtain rfl : a = 0 := Subsingleton.elim _ _
  rw [e]
  show w.toNat + 1 ≤ 16
  omega

/-- A place of a table of 16 words. -/
theorem tab_at {α : Type} (X : S16.Idx → α) (off : Fin 1 → ℕ) (h : ∀ a, off a + S1.size a ≤ S16.size a) (hp) (hlt : off 0 < 16) :
    X ((Rect.unit (s := S16) off S1.size h).toLoadRect.idx (Shape.Idx.first hp)) = X (ix1 (n0 := 16) ⟨off 0, hlt⟩) := by
  congr 1
  funext a
  obtain rfl : a = 0 := Subsingleton.elim _ _
  rfl

/-- The word read at a point from the order of the experts is the expert visited there. -/
theorem order_word (c : Dev nD) (i : grid0.Coords) (h) (hp) (y : TbBuf0 (F := F) c tbM0_0) :
    View.readAt (Elt F) tbM0_0.view (Rect.unit (s := S16) (k0_off2 i) S1.size h).toLoadRect y (Shape.Idx.first hp) = expertW y i := by
  have e : k0_off2 i 0 = (i 0).val := by
    have h16 : (i 0).val < 16 := (i 0).isLt
    simp [k0_off2, Scalar.indexCast]; omega
  refine (tab_at (α := BitVec 32) y (k0_off2 i) h hp (by rw [e]; exact (i 0).isLt)).trans ?_
  unfold expertW; congr 2; exact Fin.ext e

/-- The word read for an expert from a table of the groups' first rows. -/
theorem start_word (c : Dev nD) (w : BitVec 32) (h) (hp) (y : TbBuf0 (F := F) c tbM0_2) (hw : w.toNat < 16) :
    View.readAt (Elt F) tbM0_2.view (Rect.unit (s := S16) (k0_off3 w) S1.size h).toLoadRect y (Shape.Idx.first hp) = groupW y w := by
  have e : k0_off3 w 0 = w.toNat := by simp [k0_off3, Scalar.indexCast]
  refine (tab_at (α := BitVec 32) y (k0_off3 w) h hp (by rw [e]; exact hw)).trans ?_
  unfold groupW; congr 2; exact Fin.ext (by show k0_off3 w 0 = min w.toNat 15; omega)

/-- The word read for an expert from a table of the groups' ends. -/
theorem end_word (c : Dev nD) (w : BitVec 32) (h) (hp) (y : TbBuf0 (F := F) c tbM0_3) (hw : w.toNat < 16) :
    View.readAt (Elt F) tbM0_3.view (Rect.unit (s := S16) (k0_off3 w) S1.size h).toLoadRect y (Shape.Idx.first hp) = groupW y w :=
  start_word c w h hp y hw

/-- The word read from the count of the experts that have rows. -/
theorem count_word (c : Dev nD) (h) (hp) (y : TbBuf0 (F := F) c tbM0_1) :
    View.readAt (Elt F) tbM0_1.view (Rect.unit (s := S1) ![0] S1.size h).toLoadRect y (Shape.Idx.first hp) = countW y := by
  show (y : S1.Idx → BitVec 32) ((Rect.unit (s := S1) ![0] S1.size h).toLoadRect.idx (Shape.Idx.first hp)) = _
  unfold countW; congr 1; funext a
  obtain rfl : a = 0 := Subsingleton.elim _ _
  exact Subsingleton.elim (α := Fin 1) _ _

end Cert.MoeIdeal.Hand

end
-- ==== Proof.MoeRun.lean ====
/- The expert kernel's body run at one grid point, in the pieces the body is made of: the first point's preparation, an
   expert's block of the hidden layer, the expert's rows added to the result, and the last point's residual sum. -/
module

public import proofs.«01_k».proof.Proof.MoePoint

@[expose] public section

set_option maxRecDepth 65536

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces -/

/-- The first point: the normalised tokens into the scratch, zeros into the result. -/
def segA (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole) : Prog (TpuEff nD τ sig (Elt F) Λ₀ .tc) PUnit := do
  if k0_h1 : k0_cond1 i = 1#1 then do
    let v14 : Vec F S64x4096 .f32 ← Prog.lift (.load arg6 (Rect.unit (s := S64x4096) ![0, 0] S64x4096.size inb_S64x4096_S64x4096_0_0).toLoadRect (View.loadsAt_vmem h_S64x4096))
    let v25 : Vec F S1x4096 .f32 ← Prog.lift (.load arg7 (Rect.unit (s := S1x4096) ![0, 0] S1x4096.size inb_S1x4096_S1x4096_0_0).toLoadRect (View.loadsAt_vmem h_S1x4096))
    let v29 : Vec F S64x4096 .bf16 ← Prog.lift (.load arg18 (Rect.unit (s := S64x4096) ![0, 0] S64x4096.size inb_S64x4096_S64x4096_0_0).toLoadRect (View.loadsAt_vmem h_S64x4096))
    Prog.lift (.store arg18 (Rect.unit (s := S64x4096) ![0, 0] S64x4096.size inb_S64x4096_S64x4096_0_0) (k0_pay1 v14 v25) Finset.univ (View.stores_vmem h_S64x4096 (harg18.storeExact_slice rfl _ packedbf16_S64x4096_S64x4096_0_0) (fun _ => rfl)) (.inl rfl))
    let v33 : Vec F S64x4096 .f32 ← Prog.lift (.load arg17 (Rect.unit (s := S64x4096) ![0, 0] S64x4096.size inb_S64x4096_S64x4096_0_0).toLoadRect (View.loadsAt_vmem h_S64x4096))
    Prog.lift (.store arg17 (Rect.unit (s := S64x4096) ![0, 0] S64x4096.size inb_S64x4096_S64x4096_0_0) (k0_pay2 (F := F)) Finset.univ (View.stores_vmem_bits_univ h_S64x4096 rfl) (.inl rfl))
    pure ⟨⟩
  else do
    pure ⟨⟩

/-- The expert's scaled rows, weighted, added to the result at the expert's last block. -/
def segD (i : grid0.Coords) (v5 : BitVec 32) (k0_h2 : k0_cond2 i v5 = 1#1) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole) : Prog (TpuEff nD τ sig (Elt F) Λ₀ .tc) PUnit := do
    if k0_h5 : k0_cond5 i = 1#1 then do
      let v49 : Elt F .i32 ← smemLoad tbM0_0 (Rect.unit (s := S16) (k0_off2 i) S1.size (k0_off2_inb i k0_h5)) numel1_S1 rfl
      have k0_hw1 : k0_chk1 i v5 v49 := (← Prog.lift (TpuEff.assume (k0_chk1 i v5 v49) (k0_chk1.dec i v5 v49))).down
      let v50 : Vec F S64x2 .i32 ← Prog.lift (.load arg14 (Rect.unit (s := S64x2) ![0, 0] S64x2.size inb_S64x2_S64x2_0_0).toLoadRect (View.loadsAt_vmem h_S64x2))
      let v52 : Elt F .i32 ← smemLoad tbM0_2 (Rect.unit (s := S16) (k0_off3 v49) S1.size (k0_off3_inb i v5 v49 k0_hw1 k0_h2 k0_h5)) numel1_S1 rfl
      let v56 : Elt F .i32 ← smemLoad tbM0_3 (Rect.unit (s := S16) (k0_off3 v49) S1.size (k0_off3_inb i v5 v49 k0_hw1 k0_h2 k0_h5)) numel1_S1 rfl
      let v60 : Vec F S64x2 .f32 ← Prog.lift (.load arg15 (Rect.unit (s := S64x2) ![0, 0] S64x2.size inb_S64x2_S64x2_0_0).toLoadRect (View.loadsAt_vmem h_S64x2))
      let v71 : Vec F S64x4096 .f32 ← Prog.lift (.load arg17 (Rect.unit (s := S64x4096) ![0, 0] S64x4096.size inb_S64x4096_S64x4096_0_0).toLoadRect (View.loadsAt_vmem h_S64x4096))
      let v73 : Vec F S64x4096 .f32 ← Prog.lift (.load arg19 (Rect.unit (s := S64x4096) ![0, 0] S64x4096.size inb_S64x4096_S64x4096_0_0).toLoadRect (View.loadsAt_vmem h_S64x4096))
      let v74 : Vec F S1x1x4096 .f32 ← Prog.lift (.load arg13 (Rect.unit (s := S1x1x4096) ![0, 0, 0] S1x1x4096.size inb_S1x1x4096_S1x1x4096_0_0_0).toLoadRect (View.loadsAt_vmem h_S1x1x4096))
      let v85 : Vec F S64x4096 .f32 ← Prog.lift (.load arg17 (Rect.unit (s := S64x4096) ![0, 0] S64x4096.size inb_S64x4096_S64x4096_0_0).toLoadRect (View.loadsAt_vmem h_S64x4096))
      Prog.lift (.store arg17 (Rect.unit (s := S64x4096) ![0, 0] S64x4096.size inb_S64x4096_S64x4096_0_0) (k0_pay3 v50 v52 v56 v60 v71 v73 v74) Finset.univ (View.stores_vmem_bits_univ h_S64x4096 rfl) (.inl rfl))
      pure ⟨⟩
    else do
      pure ⟨⟩

/-- One block of the hidden layer of the visited expert, if the point visits one. -/
def segB (i : grid0.Coords) (v5 : BitVec 32) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole) : Prog (TpuEff nD τ sig (Elt F) Λ₀ .tc) PUnit := do
  if k0_h2 : k0_cond2 i v5 = 1#1 then do
    let v46 : BitVec 32 ← k0_part1 i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val)
    segD i v5 k0_h2 arg6 harg6 arg7 harg7 arg8 harg8 arg9 harg9 arg10 harg10 arg11 harg11 arg12 harg12 arg13 harg13 arg14 harg14 arg15 harg15 arg16 harg16 arg17 harg17 arg18 harg18 arg19 harg19
    pure ⟨⟩
  else do
    pure ⟨⟩

/-- The last point: the residual sum. -/
def segC (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole) : Prog (TpuEff nD τ sig (Elt F) Λ₀ .tc) PUnit := do
  if k0_h6 : k0_cond6 i = 1#1 then do
    let v14 : Vec F S64x4096 .f32 ← Prog.lift (.load arg6 (Rect.unit (s := S64x4096) ![0, 0] S64x4096.size inb_S64x4096_S64x4096_0_0).toLoadRect (View.loadsAt_vmem h_S64x4096))
    let v15 : Vec F S64x4096 .f32 ← Prog.lift (.load arg17 (Rect.unit (s := S64x4096) ![0, 0] S64x4096.size inb_S64x4096_S64x4096_0_0).toLoadRect (View.loadsAt_vmem h_S64x4096))
    let v19 : Vec F S64x4096 .bf16 ← Prog.lift (.load arg16 (Rect.unit (s := S64x4096) ![0, 0] S64x4096.size inb_S64x4096_S64x4096_0_0).toLoadRect (View.loadsAt_vmem h_S64x4096))
    Prog.lift (.store arg16 (Rect.unit (s := S64x4096) ![0, 0] S64x4096.size inb_S64x4096_S64x4096_0_0) (k0_pay4 v14 v15) Finset.univ (View.stores_vmem h_S64x4096 (harg16.storeExact_slice rfl _ packedbf16_S64x4096_S64x4096_0_0) (fun _ => rfl)) (.inl rfl))
    pure ⟨⟩
  else do
    pure ⟨⟩

/-- What follows a choice follows each of its branches. -/
theorem dite_bind_eq {α β : Type} {p : Prop} [Decidable p] (a : p → Prog (TpuEff nD τ sig (Elt F) Λ₀ .tc) α)
    (b : ¬ p → Prog (TpuEff nD τ sig (Elt F) Λ₀ .tc) α) (k : α → Prog (TpuEff nD τ sig (Elt F) Λ₀ .tc) β) :
    (dite p a b >>= k) = dite p (fun h => a h >>= k) (fun h => b h >>= k) := by split <;> rfl

set_option maxHeartbeats 2000000 in
/-- The body is its pieces one after the other. -/
theorem body_eq_segs (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole) :
    cc0_moe (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14 arg15 harg15 arg16 harg16 arg17 harg17 arg18 harg18 arg19 harg19
      = (do
        segA i arg6 harg6 arg7 harg7 arg8 harg8 arg9 harg9 arg10 harg10 arg11 harg11 arg12 harg12 arg13 harg13 arg14 harg14 arg15 harg15 arg16 harg16 arg17 harg17 arg18 harg18 arg19 harg19
        let v5 : Elt F .i32 ← smemLoad tbM0_1 (Rect.unit (s := S1) ![0] S1.size inb_S1_S1_0) numel1_S1 rfl
        segB i v5 arg6 harg6 arg7 harg7 arg8 harg8 arg9 harg9 arg10 harg10 arg11 harg11 arg12 harg12 arg13 harg13 arg14 harg14 arg15 harg15 arg16 harg16 arg17 harg17 arg18 harg18 arg19 harg19
        segC i arg6 harg6 arg7 harg7 arg8 harg8 arg9 harg9 arg10 harg10 arg11 harg11 arg12 harg12 arg13 harg13 arg14 harg14 arg15 harg15 arg16 harg16 arg17 harg17 arg18 harg18 arg19 harg19
        pure ⟨⟩) := by
  rw [cc0_moe_eq_skeleton]; unfold cc0_moe_skel segA segB segD segC
  simp only [dite_bind_eq, bind_assoc, pure_bind]

/-! ## Their runs -/

set_option maxHeartbeats 2000000 in
/-- The first point, whatever the scratch and the result held. -/
theorem segA_first (c : Dev nD) (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole)
    (hc : k0_cond1 i = 1#1) (x0 : Vec F S64x4096 .f32) (x1 : Vec F S1x4096 .f32) (mo : Vec F S64x4096 .f32) (xn : Vec F S64x4096 .bf16) (E : Set ℕ) (K : PUnit → sProp 𝕄) :
    iprop(owns (c : Thread nD τ) arg6 fullShare x0 ∗ owns (c : Thread nD τ) arg7 fullShare x1 ∗ owns (c : Thread nD τ) arg17 fullShare mo ∗ owns (c : Thread nD τ) arg18 fullShare xn
        ∗ (iprop(owns (c : Thread nD τ) arg6 fullShare x0 ∗ owns (c : Thread nD τ) arg7 fullShare x1 ∗ owns (c : Thread nD τ) arg17 fullShare (k0_pay2 (F := F)) ∗ owns (c : Thread nD τ) arg18 fullShare (k0_pay1 x0 x1)) -∗ K ⟨⟩))
      ⊢ wp frame (wpE (defs₀ (F := F)) Variants.none c none) E (segA i arg6 harg6 arg7 harg7 arg8 harg8 arg9 harg9 arg10 harg10 arg11 harg11 arg12 harg12 arg13 harg13 arg14 harg14 arg15 harg15 arg16 harg16 arg17 harg17 arg18 harg18 arg19 harg19) K := by
  unfold segA
  unfold owns
  iintro ⟨⟨%f6, %hf6, H6⟩, ⟨%f7, %hf7, H7⟩, ⟨%f17, %hf17, H17⟩, ⟨%f18, %hf18, H18⟩, Hk⟩
  obtain rfl := harg6.eq_unread hf6
  obtain rfl := harg7.eq_unread hf7
  obtain rfl := harg17.eq_unread hf17
  obtain rfl := harg18.eq_unread hf18
  sl_exec (disch := sl_exact hc)
  sl_step
  iapply Hk
  isplitl [H6]
  · iexists _; isplitr; · ipureintro; exact harg6.read_unread _
    iexact H6
  isplitl [H7]
  · iexists _; isplitr; · ipureintro; exact harg7.read_unread _
    iexact H7
  isplitl [H17]
  · iexists _; isplitr; swap; · iexact H17
    ipureintro; exact (View.read_writes_full _ _ _ _ _).trans (by simp only [View.readCov_cons_toLoadRect, View.readAt_writes_full, View.readAt_full, readAt_block, Memref.IsWhole.read_unread, all_S64x4096, all_S1x4096, all_S64x2, all_S1x4096x512, all_S1x1x512, all_S1x512x4096, all_S1x1x4096])
  iexists _; isplitr; swap; · iexact H18
  ipureintro; exact (View.read_writes_full _ _ _ _ _).trans (by simp only [View.readCov_cons_toLoadRect, View.readAt_writes_full, View.readAt_full, readAt_block, Memref.IsWhole.read_unread, all_S64x4096, all_S1x4096, all_S64x2, all_S1x4096x512, all_S1x1x512, all_S1x512x4096, all_S1x1x4096])

set_option maxHeartbeats 2000000 in
/-- An expert's first block of the hidden layer: its product with the second layer's rows starts the sum. -/
theorem part1_first (c : Dev nD) (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole)
    (w : BitVec 32) (hc3 : Scalar.cmpi .ne (Scalar.extui (Scalar.cmpi .eq w 0#32) : BitVec 32) 0#32 = 1#1) (hc4 : ¬ Scalar.cmpi .ne (Scalar.extui (Scalar.cmpi .sgt w 0#32) : BitVec 32) 0#32 = 1#1) (x2 : Vec F S1x4096x512 .i8) (x3 : Vec F S1x1x512 .f32) (x4 : Vec F S1x4096x512 .i8) (x5 : Vec F S1x1x512 .f32) (x6 : Vec F S1x512x4096 .i8) (xn : Vec F S64x4096 .bf16) (ac : Vec F S64x4096 .f32) (E : Set ℕ) (K : BitVec 32 → sProp 𝕄) :
    iprop(owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg18 fullShare xn ∗ owns (c : Thread nD τ) arg19 fullShare ac
        ∗ (iprop(owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg18 fullShare xn ∗ owns (c : Thread nD τ) arg19 fullShare (k0_pay6 xn x2 x3 x4 x5 x6)) -∗ K (Scalar.extui (Scalar.cmpi .eq w 6#32))))
      ⊢ wp frame (wpE (defs₀ (F := F)) Variants.none c none) E (k0_part1 i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14 arg15 harg15 arg16 harg16 arg17 harg17 arg18 harg18 arg19 harg19 w) K := by
  rw [k0_part1_eq_skeleton]; unfold k0_part1_skel
  unfold owns
  iintro ⟨⟨%f8, %hf8, H8⟩, ⟨%f9, %hf9, H9⟩, ⟨%f10, %hf10, H10⟩, ⟨%f11, %hf11, H11⟩, ⟨%f12, %hf12, H12⟩, ⟨%f18, %hf18, H18⟩, ⟨%f19, %hf19, H19⟩, Hk⟩
  obtain rfl := harg8.eq_unread hf8
  obtain rfl := harg9.eq_unread hf9
  obtain rfl := harg10.eq_unread hf10
  obtain rfl := harg11.eq_unread hf11
  obtain rfl := harg12.eq_unread hf12
  obtain rfl := harg18.eq_unread hf18
  obtain rfl := harg19.eq_unread hf19
  sl_exec (disch := first | sl_exact hc3 | sl_exact hc4)
  sl_step
  unfold part1_first.sl.v46 part1_first.sl.v45
  iapply Hk
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H18]
  · iexists _; isplitr; · ipureintro; exact harg18.read_unread _
    iexact H18
  iexists _; isplitr; swap; · iexact H19
  ipureintro; exact (View.read_writes_full _ _ _ _ _).trans (by simp only [View.readCov_cons_toLoadRect, View.readAt_writes_full, View.readAt_full, readAt_block, Memref.IsWhole.read_unread, all_S64x4096, all_S1x4096, all_S64x2, all_S1x4096x512, all_S1x1x512, all_S1x512x4096, all_S1x1x4096])

set_option maxHeartbeats 2000000 in
/-- A later block: its product is added to the sum. -/
theorem part1_later (c : Dev nD) (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole)
    (w : BitVec 32) (hc3 : ¬ Scalar.cmpi .ne (Scalar.extui (Scalar.cmpi .eq w 0#32) : BitVec 32) 0#32 = 1#1) (hc4 : Scalar.cmpi .ne (Scalar.extui (Scalar.cmpi .sgt w 0#32) : BitVec 32) 0#32 = 1#1) (x2 : Vec F S1x4096x512 .i8) (x3 : Vec F S1x1x512 .f32) (x4 : Vec F S1x4096x512 .i8) (x5 : Vec F S1x1x512 .f32) (x6 : Vec F S1x512x4096 .i8) (xn : Vec F S64x4096 .bf16) (ac : Vec F S64x4096 .f32) (E : Set ℕ) (K : BitVec 32 → sProp 𝕄) :
    iprop(owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg18 fullShare xn ∗ owns (c : Thread nD τ) arg19 fullShare ac
        ∗ (iprop(owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg18 fullShare xn ∗ owns (c : Thread nD τ) arg19 fullShare (k0_pay7 xn x2 x3 x4 x5 x6 ac)) -∗ K (Scalar.extui (Scalar.cmpi .eq w 6#32))))
      ⊢ wp frame (wpE (defs₀ (F := F)) Variants.none c none) E (k0_part1 i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14 arg15 harg15 arg16 harg16 arg17 harg17 arg18 harg18 arg19 harg19 w) K := by
  rw [k0_part1_eq_skeleton]; unfold k0_part1_skel
  unfold owns
  iintro ⟨⟨%f8, %hf8, H8⟩, ⟨%f9, %hf9, H9⟩, ⟨%f10, %hf10, H10⟩, ⟨%f11, %hf11, H11⟩, ⟨%f12, %hf12, H12⟩, ⟨%f18, %hf18, H18⟩, ⟨%f19, %hf19, H19⟩, Hk⟩
  obtain rfl := harg8.eq_unread hf8
  obtain rfl := harg9.eq_unread hf9
  obtain rfl := harg10.eq_unread hf10
  obtain rfl := harg11.eq_unread hf11
  obtain rfl := harg12.eq_unread hf12
  obtain rfl := harg18.eq_unread hf18
  obtain rfl := harg19.eq_unread hf19
  sl_exec (disch := first | sl_exact hc3 | sl_exact hc4)
  sl_step
  unfold part1_later.sl.v46 part1_later.sl.v45
  iapply Hk
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H18]
  · iexists _; isplitr; · ipureintro; exact harg18.read_unread _
    iexact H18
  iexists _; isplitr; swap; · iexact H19
  ipureintro; exact (View.read_writes_full _ _ _ _ _).trans (by simp only [View.readCov_cons_toLoadRect, View.readAt_writes_full, View.readAt_full, readAt_block, Memref.IsWhole.read_unread, all_S64x4096, all_S1x4096, all_S64x2, all_S1x4096x512, all_S1x1x512, all_S1x512x4096, all_S1x1x4096])

set_option maxHeartbeats 2000000 in
/-- The expert's last block: its rows are scaled, weighted and added to the result. -/
theorem segD_last (c : Dev nD) (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole)
    (v5 : BitVec 32) (h2 : k0_cond2 i v5 = 1#1) (h5 : k0_cond5 i = 1#1) (y0 : TbBuf0 (F := F) c tbM0_0) (y2 : TbBuf0 (F := F) c tbM0_2) (y3 : TbBuf0 (F := F) c tbM0_3)
    (hchk : (expertW y0 i).toNat < 16) (x7 : Vec F S1x1x4096 .f32) (x8 : Vec F S64x2 .i32) (x9 : Vec F S64x2 .f32) (mo : Vec F S64x4096 .f32) (ac : Vec F S64x4096 .f32) (E : Set ℕ) (K : PUnit → sProp 𝕄) :
    iprop(owns (c : Thread nD τ) arg13 fullShare x7 ∗ owns (c : Thread nD τ) arg14 fullShare x8 ∗ owns (c : Thread nD τ) arg15 fullShare x9 ∗ owns (c : Thread nD τ) arg17 fullShare mo ∗ owns (c : Thread nD τ) arg19 fullShare ac ∗ tbPt0 c tbM0_0 y0 ∗ tbPt0 c tbM0_2 y2 ∗ tbPt0 c tbM0_3 y3
        ∗ (iprop(owns (c : Thread nD τ) arg13 fullShare x7 ∗ owns (c : Thread nD τ) arg14 fullShare x8 ∗ owns (c : Thread nD τ) arg15 fullShare x9 ∗ owns (c : Thread nD τ) arg17 fullShare (k0_pay3 x8 (groupW y2 (expertW y0 i)) (groupW y3 (expertW y0 i)) x9 mo ac x7) ∗ owns (c : Thread nD τ) arg19 fullShare ac ∗ tbPt0 c tbM0_0 y0 ∗ tbPt0 c tbM0_2 y2 ∗ tbPt0 c tbM0_3 y3) -∗ K ⟨⟩))
      ⊢ wp frame (wpE (defs₀ (F := F)) Variants.none c none) E (segD i v5 h2 arg6 harg6 arg7 harg7 arg8 harg8 arg9 harg9 arg10 harg10 arg11 harg11 arg12 harg12 arg13 harg13 arg14 harg14 arg15 harg15 arg16 harg16 arg17 harg17 arg18 harg18 arg19 harg19) K := by
  unfold segD
  unfold owns
  iintro ⟨⟨%f13, %hf13, H13⟩, ⟨%f14, %hf14, H14⟩, ⟨%f15, %hf15, H15⟩, ⟨%f17, %hf17, H17⟩, ⟨%f19, %hf19, H19⟩, HT0, HT2, HT3, Hk⟩
  obtain rfl := harg13.eq_unread hf13
  obtain rfl := harg14.eq_unread hf14
  obtain rfl := harg15.eq_unread hf15
  obtain rfl := harg17.eq_unread hf17
  obtain rfl := harg19.eq_unread hf19
  sl_exec (disch := first | sl_exact h5 | exact chk_of i _ _ (by unfold segD_last.sl.r; rw [order_word]; exact hchk))
  sl_step
  iapply Hk
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H17]
  · iexists _; isplitr; swap; · iexact H17
    ipureintro; exact (View.read_writes_full _ _ _ _ _).trans (by
      simp only [View.readCov_cons_toLoadRect, View.readAt_writes_full, View.readAt_full, readAt_block, Memref.IsWhole.read_unread, all_S64x4096, all_S1x4096, all_S64x2, all_S1x4096x512, all_S1x1x512, all_S1x512x4096, all_S1x1x4096]
      have e : segD_last.sl.r c i h5 y0 = expertW y0 i := by unfold segD_last.sl.r; exact order_word c i _ _ y0
      have l : (segD_last.sl.r c i h5 y0).toNat < 16 := by rw [e]; exact hchk
      have e1 : segD_last.sl.r_1 c i v5 h2 h5 y0 y2 hchk = groupW y2 (expertW y0 i) := (start_word c _ _ _ y2 l).trans (by rw [e])
      have e2 : segD_last.sl.r_2 c i v5 h2 h5 y0 y3 hchk = groupW y3 (expertW y0 i) := (end_word c _ _ _ y3 l).trans (by rw [e])
      rw [e1, e2])
  isplitl [H19]
  · iexists _; isplitr; · ipureintro; exact harg19.read_unread _
    iexact H19
  isplitl [HT0]; · iexact HT0
  isplitl [HT2]; · iexact HT2
  iexact HT3

set_option maxHeartbeats 2000000 in
/-- The last point. -/
theorem segC_last (c : Dev nD) (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole)
    (h6 : k0_cond6 i = 1#1) (x0 : Vec F S64x4096 .f32) (ou : Vec F S64x4096 .bf16) (mo : Vec F S64x4096 .f32) (E : Set ℕ) (K : PUnit → sProp 𝕄) :
    iprop(owns (c : Thread nD τ) arg6 fullShare x0 ∗ owns (c : Thread nD τ) arg16 fullShare ou ∗ owns (c : Thread nD τ) arg17 fullShare mo
        ∗ (iprop(owns (c : Thread nD τ) arg6 fullShare x0 ∗ owns (c : Thread nD τ) arg16 fullShare (k0_pay4 x0 mo) ∗ owns (c : Thread nD τ) arg17 fullShare mo) -∗ K ⟨⟩))
      ⊢ wp frame (wpE (defs₀ (F := F)) Variants.none c none) E (segC i arg6 harg6 arg7 harg7 arg8 harg8 arg9 harg9 arg10 harg10 arg11 harg11 arg12 harg12 arg13 harg13 arg14 harg14 arg15 harg15 arg16 harg16 arg17 harg17 arg18 harg18 arg19 harg19) K := by
  unfold segC
  unfold owns
  iintro ⟨⟨%f6, %hf6, H6⟩, ⟨%f16, %hf16, H16⟩, ⟨%f17, %hf17, H17⟩, Hk⟩
  obtain rfl := harg6.eq_unread hf6
  obtain rfl := harg16.eq_unread hf16
  obtain rfl := harg17.eq_unread hf17
  sl_exec (disch := sl_exact h6)
  sl_step
  iapply Hk
  isplitl [H6]
  · iexists _; isplitr; · ipureintro; exact harg6.read_unread _
    iexact H6
  isplitl [H16]
  · iexists _; isplitr; swap; · iexact H16
    ipureintro; exact (View.read_writes_full _ _ _ _ _).trans (by simp only [View.readCov_cons_toLoadRect, View.readAt_writes_full, View.readAt_full, readAt_block, Memref.IsWhole.read_unread, all_S64x4096, all_S1x4096, all_S64x2, all_S1x4096x512, all_S1x1x512, all_S1x512x4096, all_S1x1x4096])
  iexists _; isplitr; · ipureintro; exact harg17.read_unread _
  iexact H17

/-! ## The pieces at any point -/

/-- The first piece at any point. -/
theorem segA_run (c : Dev nD) (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole)
    (x0 : Vec F S64x4096 .f32) (x1 : Vec F S1x4096 .f32) (mo : Vec F S64x4096 .f32) (xn : Vec F S64x4096 .bf16) (E : Set ℕ) (K : PUnit → sProp 𝕄) :
    iprop(owns (c : Thread nD τ) arg6 fullShare x0 ∗ owns (c : Thread nD τ) arg7 fullShare x1 ∗ owns (c : Thread nD τ) arg17 fullShare mo ∗ owns (c : Thread nD τ) arg18 fullShare xn
        ∗ (iprop(owns (c : Thread nD τ) arg6 fullShare x0 ∗ owns (c : Thread nD τ) arg7 fullShare x1 ∗ owns (c : Thread nD τ) arg17 fullShare (if k0_cond1 i = 1#1 then k0_pay2 (F := F) else mo) ∗ owns (c : Thread nD τ) arg18 fullShare (if k0_cond1 i = 1#1 then k0_pay1 x0 x1 else xn)) -∗ K ⟨⟩))
      ⊢ wp frame (wpE (defs₀ (F := F)) Variants.none c none) E (segA i arg6 harg6 arg7 harg7 arg8 harg8 arg9 harg9 arg10 harg10 arg11 harg11 arg12 harg12 arg13 harg13 arg14 harg14 arg15 harg15 arg16 harg16 arg17 harg17 arg18 harg18 arg19 harg19) K := by
  by_cases hc : k0_cond1 i = 1#1
  · rw [if_pos hc, if_pos hc]
    exact segA_first c i arg6 harg6 arg7 harg7 arg8 harg8 arg9 harg9 arg10 harg10 arg11 harg11 arg12 harg12 arg13 harg13 arg14 harg14 arg15 harg15 arg16 harg16 arg17 harg17 arg18 harg18 arg19 harg19 hc x0 x1 mo xn E K
  · rw [if_neg hc, if_neg hc]; unfold segA; rw [dif_neg hc]
    iintro ⟨H6, H7, H17, H18, Hk⟩
    sl_step; iapply Hk
    isplitl [H6]; · iexact H6
    isplitl [H7]; · iexact H7
    isplitl [H17]; · iexact H17
    iexact H18

/-- The expert's rows added, at any point that visits an expert. -/
theorem segD_run (c : Dev nD) (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole)
    (v5 : BitVec 32) (h2 : k0_cond2 i v5 = 1#1) (y0 : TbBuf0 (F := F) c tbM0_0) (y2 : TbBuf0 (F := F) c tbM0_2) (y3 : TbBuf0 (F := F) c tbM0_3)
    (hchk : (expertW y0 i).toNat < 16) (x7 : Vec F S1x1x4096 .f32) (x8 : Vec F S64x2 .i32) (x9 : Vec F S64x2 .f32) (mo : Vec F S64x4096 .f32) (ac : Vec F S64x4096 .f32) (E : Set ℕ) (K : PUnit → sProp 𝕄) :
    iprop(owns (c : Thread nD τ) arg13 fullShare x7 ∗ owns (c : Thread nD τ) arg14 fullShare x8 ∗ owns (c : Thread nD τ) arg15 fullShare x9 ∗ owns (c : Thread nD τ) arg17 fullShare mo ∗ owns (c : Thread nD τ) arg19 fullShare ac ∗ tbPt0 c tbM0_0 y0 ∗ tbPt0 c tbM0_2 y2 ∗ tbPt0 c tbM0_3 y3
        ∗ (iprop(owns (c : Thread nD τ) arg13 fullShare x7 ∗ owns (c : Thread nD τ) arg14 fullShare x8 ∗ owns (c : Thread nD τ) arg15 fullShare x9 ∗ owns (c : Thread nD τ) arg17 fullShare (if k0_cond5 i = 1#1 then k0_pay3 x8 (groupW y2 (expertW y0 i)) (groupW y3 (expertW y0 i)) x9 mo ac x7 else mo) ∗ owns (c : Thread nD τ) arg19 fullShare ac ∗ tbPt0 c tbM0_0 y0 ∗ tbPt0 c tbM0_2 y2 ∗ tbPt0 c tbM0_3 y3) -∗ K ⟨⟩))
      ⊢ wp frame (wpE (defs₀ (F := F)) Variants.none c none) E (segD i v5 h2 arg6 harg6 arg7 harg7 arg8 harg8 arg9 harg9 arg10 harg10 arg11 harg11 arg12 harg12 arg13 harg13 arg14 harg14 arg15 harg15 arg16 harg16 arg17 harg17 arg18 harg18 arg19 harg19) K := by
  by_cases h5 : k0_cond5 i = 1#1
  · rw [if_pos h5]
    exact segD_last c i arg6 harg6 arg7 harg7 arg8 harg8 arg9 harg9 arg10 harg10 arg11 harg11 arg12 harg12 arg13 harg13 arg14 harg14 arg15 harg15 arg16 harg16 arg17 harg17 arg18 harg18 arg19 harg19 v5 h2 h5 y0 y2 y3 hchk x7 x8 x9 mo ac E K
  · rw [if_neg h5]; unfold segD; rw [dif_neg h5]
    iintro ⟨H13, H14, H15, H17, H19, HT0, HT2, HT3, Hk⟩
    sl_step; iapply Hk
    isplitl [H13]; · iexact H13
    isplitl [H14]; · iexact H14
    isplitl [H15]; · iexact H15
    isplitl [H17]; · iexact H17
    isplitl [H19]; · iexact H19
    isplitl [HT0]; · iexact HT0
    isplitl [HT2]; · iexact HT2
    iexact HT3

/-- The last piece at any point. -/
theorem segC_run (c : Dev nD) (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole)
    (x0 : Vec F S64x4096 .f32) (ou : Vec F S64x4096 .bf16) (mo : Vec F S64x4096 .f32) (E : Set ℕ) (K : PUnit → sProp 𝕄) :
    iprop(owns (c : Thread nD τ) arg6 fullShare x0 ∗ owns (c : Thread nD τ) arg16 fullShare ou ∗ owns (c : Thread nD τ) arg17 fullShare mo
        ∗ (iprop(owns (c : Thread nD τ) arg6 fullShare x0 ∗ owns (c : Thread nD τ) arg16 fullShare (if k0_cond6 i = 1#1 then k0_pay4 x0 mo else ou) ∗ owns (c : Thread nD τ) arg17 fullShare mo) -∗ K ⟨⟩))
      ⊢ wp frame (wpE (defs₀ (F := F)) Variants.none c none) E (segC i arg6 harg6 arg7 harg7 arg8 harg8 arg9 harg9 arg10 harg10 arg11 harg11 arg12 harg12 arg13 harg13 arg14 harg14 arg15 harg15 arg16 harg16 arg17 harg17 arg18 harg18 arg19 harg19) K := by
  by_cases h6 : k0_cond6 i = 1#1
  · rw [if_pos h6]
    exact segC_last c i arg6 harg6 arg7 harg7 arg8 harg8 arg9 harg9 arg10 harg10 arg11 harg11 arg12 harg12 arg13 harg13 arg14 harg14 arg15 harg15 arg16 harg16 arg17 harg17 arg18 harg18 arg19 harg19 h6 x0 ou mo E K
  · rw [if_neg h6]; unfold segC; rw [dif_neg h6]
    iintro ⟨H6, H16, H17, Hk⟩
    sl_step; iapply Hk
    isplitl [H6]; · iexact H6
    isplitl [H16]; · iexact H16
    iexact H17

/-- The block's number as the body compares it with zero. -/
theorem first_block : ∀ n : Fin 7, (Scalar.cmpi .ne (Scalar.extui (Scalar.cmpi .eq (BitVec.ofNat 32 n.val) 0#32) : BitVec 32) 0#32 = 1#1 ↔ n.val = 0)
    ∧ (Scalar.cmpi .ne (Scalar.extui (Scalar.cmpi .sgt (BitVec.ofNat 32 n.val) 0#32) : BitVec 32) 0#32 = 1#1 ↔ ¬ n.val = 0) := by decide

/-- A block of the hidden layer at any point. -/
theorem part1_run (c : Dev nD) (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole)
    (x2 : Vec F S1x4096x512 .i8) (x3 : Vec F S1x1x512 .f32) (x4 : Vec F S1x4096x512 .i8) (x5 : Vec F S1x1x512 .f32) (x6 : Vec F S1x512x4096 .i8) (xn : Vec F S64x4096 .bf16) (ac : Vec F S64x4096 .f32) (E : Set ℕ) (K : BitVec 32 → sProp 𝕄) :
    iprop(owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg18 fullShare xn ∗ owns (c : Thread nD τ) arg19 fullShare ac
        ∗ (iprop(owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg18 fullShare xn ∗ owns (c : Thread nD τ) arg19 fullShare (if (i 1).val = 0 then k0_pay6 xn x2 x3 x4 x5 x6 else k0_pay7 xn x2 x3 x4 x5 x6 ac)) -∗ K (Scalar.extui (Scalar.cmpi .eq (BitVec.ofNat 32 (i 1).val) 6#32))))
      ⊢ wp frame (wpE (defs₀ (F := F)) Variants.none c none) E (k0_part1 i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val)) K := by
  obtain ⟨e3, e4⟩ := first_block (⟨(i 1).val, (i 1).isLt⟩ : Fin 7)
  by_cases h : (i 1).val = 0
  · rw [if_pos h]
    exact part1_first c i arg6 harg6 arg7 harg7 arg8 harg8 arg9 harg9 arg10 harg10 arg11 harg11 arg12 harg12 arg13 harg13 arg14 harg14 arg15 harg15 arg16 harg16 arg17 harg17 arg18 harg18 arg19 harg19 _ (e3.2 h) (fun h' => e4.1 h' h) x2 x3 x4 x5 x6 xn ac E K
  · rw [if_neg h]
    exact part1_later c i arg6 harg6 arg7 harg7 arg8 harg8 arg9 harg9 arg10 harg10 arg11 harg11 arg12 harg12 arg13 harg13 arg14 harg14 arg15 harg15 arg16 harg16 arg17 harg17 arg18 harg18 arg19 harg19 _ (fun h' => h (e3.1 h')) (e4.2 h) x2 x3 x4 x5 x6 xn ac E K

/-- The middle piece at any point. -/
theorem segB_run (c : Dev nD) (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole)
    (v5 : BitVec 32) (y0 : TbBuf0 (F := F) c tbM0_0) (y2 : TbBuf0 (F := F) c tbM0_2) (y3 : TbBuf0 (F := F) c tbM0_3)
    (hchk : (expertW y0 i).toNat < 16) (x2 : Vec F S1x4096x512 .i8) (x3 : Vec F S1x1x512 .f32) (x4 : Vec F S1x4096x512 .i8) (x5 : Vec F S1x1x512 .f32) (x6 : Vec F S1x512x4096 .i8)
    (x7 : Vec F S1x1x4096 .f32) (x8 : Vec F S64x2 .i32) (x9 : Vec F S64x2 .f32) (mo : Vec F S64x4096 .f32) (xn : Vec F S64x4096 .bf16) (ac : Vec F S64x4096 .f32) (E : Set ℕ) (K : PUnit → sProp 𝕄) :
    iprop(owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg17 fullShare mo ∗ owns (c : Thread nD τ) arg18 fullShare xn ∗ owns (c : Thread nD τ) arg19 fullShare ac ∗ tbPt0 c tbM0_0 y0 ∗ tbPt0 c tbM0_2 y2 ∗ tbPt0 c tbM0_3 y3
        ∗ (iprop(owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg17 fullShare (if k0_cond2 i v5 = 1#1 then if k0_cond5 i = 1#1 then k0_pay3 x8 (groupW y2 (expertW y0 i)) (groupW y3 (expertW y0 i)) x9 mo (if (i 1).val = 0 then k0_pay6 xn x2 x3 x4 x5 x6 else k0_pay7 xn x2 x3 x4 x5 x6 ac) x7 else mo else mo) ∗ owns (c : Thread nD τ) arg18 fullShare xn ∗ owns (c : Thread nD τ) arg19 fullShare (if k0_cond2 i v5 = 1#1 then (if (i 1).val = 0 then k0_pay6 xn x2 x3 x4 x5 x6 else k0_pay7 xn x2 x3 x4 x5 x6 ac) else ac) ∗ tbPt0 c tbM0_0 y0 ∗ tbPt0 c tbM0_2 y2 ∗ tbPt0 c tbM0_3 y3) -∗ K ⟨⟩))
      ⊢ wp frame (wpE (defs₀ (F := F)) Variants.none c none) E (segB i v5 arg6 harg6 arg7 harg7 arg8 harg8 arg9 harg9 arg10 harg10 arg11 harg11 arg12 harg12 arg13 harg13 arg14 harg14 arg15 harg15 arg16 harg16 arg17 harg17 arg18 harg18 arg19 harg19) K := by
  by_cases h2 : k0_cond2 i v5 = 1#1
  · simp only [if_pos h2]; unfold segB; rw [dif_pos h2, wp_bind]
    iintro ⟨H8, H9, H10, H11, H12, H13, H14, H15, H17, H18, H19, HT0, HT2, HT3, Hk⟩
    iapply (part1_run c i arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 xn ac E _)
    isplitl [H8]; · iexact H8
    isplitl [H9]; · iexact H9
    isplitl [H10]; · iexact H10
    isplitl [H11]; · iexact H11
    isplitl [H12]; · iexact H12
    isplitl [H18]; · iexact H18
    isplitl [H19]; · iexact H19
    iintro ⟨H8, H9, H10, H11, H12, H18, H19⟩
    rw [wp_bind]
    iapply (segD_run c i arg6 harg6 arg7 harg7 arg8 harg8 arg9 harg9 arg10 harg10 arg11 harg11 arg12 harg12 arg13 harg13 arg14 harg14 arg15 harg15 arg16 harg16 arg17 harg17 arg18 harg18 arg19 harg19 v5 h2 y0 y2 y3 hchk x7 x8 x9 mo _ E _)
    isplitl [H13]; · iexact H13
    isplitl [H14]; · iexact H14
    isplitl [H15]; · iexact H15
    isplitl [H17]; · iexact H17
    isplitl [H19]; · iexact H19
    isplitl [HT0]; · iexact HT0
    isplitl [HT2]; · iexact HT2
    isplitl [HT3]; · iexact HT3
    iintro ⟨H13, H14, H15, H17, H19, HT0, HT2, HT3⟩
    sl_step; iapply Hk
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H17]; · iexact H17
    isplitl [H18]; · iexact H18
    isplitl [H19]; · iexact H19
    isplitl [HT0]; · iexact HT0
    isplitl [HT2]; · iexact HT2
    iexact HT3
  · simp only [if_neg h2]; unfold segB; rw [dif_neg h2]
    iintro ⟨H8, H9, H10, H11, H12, H13, H14, H15, H17, H18, H19, HT0, HT2, HT3, Hk⟩
    sl_step; iapply Hk
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H17]; · iexact H17
    isplitl [H18]; · iexact H18
    isplitl [H19]; · iexact H19
    isplitl [HT0]; · iexact HT0
    isplitl [HT2]; · iexact HT2
    iexact HT3

/-- The count of the experts that have rows, read. -/
theorem count_run (c : Dev nD) (y1 : TbBuf0 (F := F) c tbM0_1) (E : Set ℕ) (k : BitVec 32 → Prog (TpuEff nD τ sig (Elt F) Λ₀ .tc) PUnit) (K : PUnit → sProp 𝕄) :
    iprop(tbPt0 c tbM0_1 y1 ∗ (tbPt0 c tbM0_1 y1 -∗ wp frame (wpE (defs₀ (F := F)) Variants.none c none) E (k (countW y1)) K))
      ⊢ wp frame (wpE (defs₀ (F := F)) Variants.none c none) E (smemLoad tbM0_1 (Rect.unit (s := S1) ![0] S1.size inb_S1_S1_0) numel1_S1 rfl >>= k) K := by
  iintro ⟨H, Hk⟩
  sl_exec
  unfold count_run.sl.r
  rw [count_word]
  iapply Hk
  iexact H

/-! ## What a point leaves -/

/-- The normalised tokens after a point. -/
def xnNext (i : grid0.Coords) (x0 : Vec F S64x4096 .f32) (x1 : Vec F S1x4096 .f32) (xn : Vec F S64x4096 .bf16) : Vec F S64x4096 .bf16 :=
  if k0_cond1 i = 1#1 then k0_pay1 x0 x1 else xn

/-- The sum over the hidden layer's blocks after a point that visits an expert. -/
def accStep (i : grid0.Coords) (xn : Vec F S64x4096 .bf16) (x2 : Vec F S1x4096x512 .i8) (x3 : Vec F S1x1x512 .f32) (x4 : Vec F S1x4096x512 .i8) (x5 : Vec F S1x1x512 .f32)
    (x6 : Vec F S1x512x4096 .i8) (ac : Vec F S64x4096 .f32) : Vec F S64x4096 .f32 :=
  if (i 1).val = 0 then k0_pay6 xn x2 x3 x4 x5 x6 else k0_pay7 xn x2 x3 x4 x5 x6 ac

/-- The result after the zeros of the first point. -/
def moeInit (i : grid0.Coords) (mo : Vec F S64x4096 .f32) : Vec F S64x4096 .f32 := if k0_cond1 i = 1#1 then k0_pay2 (F := F) else mo

/-- The result after a point, from the sum the point leaves. -/
def moeNext (i : grid0.Coords) (v5 lo hi : BitVec 32) (x7 : Vec F S1x1x4096 .f32) (x8 : Vec F S64x2 .i32) (x9 : Vec F S64x2 .f32) (mo ac : Vec F S64x4096 .f32) : Vec F S64x4096 .f32 :=
  if k0_cond2 i v5 = 1#1 then if k0_cond5 i = 1#1 then k0_pay3 x8 lo hi x9 mo ac x7 else mo else mo

/-- The whole body at any point. -/
theorem run (c : Dev nD) (i : grid0.Coords) (arg6 : Memref sig .tc .vmem S64x4096 .f32) (harg6 : arg6.IsWhole) (arg7 : Memref sig .tc .vmem S1x4096 .f32) (harg7 : arg7.IsWhole) (arg8 : Memref sig .tc .vmem S1x4096x512 .i8) (harg8 : arg8.IsWhole) (arg9 : Memref sig .tc .vmem S1x1x512 .f32) (harg9 : arg9.IsWhole) (arg10 : Memref sig .tc .vmem S1x4096x512 .i8) (harg10 : arg10.IsWhole) (arg11 : Memref sig .tc .vmem S1x1x512 .f32) (harg11 : arg11.IsWhole) (arg12 : Memref sig .tc .vmem S1x512x4096 .i8) (harg12 : arg12.IsWhole) (arg13 : Memref sig .tc .vmem S1x1x4096 .f32) (harg13 : arg13.IsWhole) (arg14 : Memref sig .tc .vmem S64x2 .i32) (harg14 : arg14.IsWhole) (arg15 : Memref sig .tc .vmem S64x2 .f32) (harg15 : arg15.IsWhole) (arg16 : Memref sig .tc .vmem S64x4096 .bf16) (harg16 : arg16.IsWhole) (arg17 : Memref sig .tc .vmem S64x4096 .f32) (harg17 : arg17.IsWhole) (arg18 : Memref sig .tc .vmem S64x4096 .bf16) (harg18 : arg18.IsWhole) (arg19 : Memref sig .tc .vmem S64x4096 .f32) (harg19 : arg19.IsWhole)
    (y0 : TbBuf0 (F := F) c tbM0_0) (y1 : TbBuf0 (F := F) c tbM0_1) (y2 : TbBuf0 (F := F) c tbM0_2) (y3 : TbBuf0 (F := F) c tbM0_3)
    (hchk : (expertW y0 i).toNat < 16) (x0 : Vec F S64x4096 .f32) (x1 : Vec F S1x4096 .f32) (x2 : Vec F S1x4096x512 .i8) (x3 : Vec F S1x1x512 .f32) (x4 : Vec F S1x4096x512 .i8) (x5 : Vec F S1x1x512 .f32) (x6 : Vec F S1x512x4096 .i8)
    (x7 : Vec F S1x1x4096 .f32) (x8 : Vec F S64x2 .i32) (x9 : Vec F S64x2 .f32) (ou : Vec F S64x4096 .bf16) (mo : Vec F S64x4096 .f32) (xn : Vec F S64x4096 .bf16) (ac : Vec F S64x4096 .f32) (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare ou ∗ owns (c : Thread nD τ) arg17 fullShare mo ∗ owns (c : Thread nD τ) arg18 fullShare xn ∗ owns (c : Thread nD τ) arg19 fullShare ac ∗ tbPt0 c tbM0_0 y0 ∗ tbPt0 c tbM0_1 y1 ∗ tbPt0 c tbM0_2 y2 ∗ tbPt0 c tbM0_3 y3
        ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare (if k0_cond6 i = 1#1 then k0_pay4 x0 (moeNext i (countW y1) (groupW y2 (expertW y0 i)) (groupW y3 (expertW y0 i)) x7 x8 x9 (moeInit i mo) (accStep i (xnNext i x0 x1 xn) x2 x3 x4 x5 x6 ac)) else ou) ∗ owns (c : Thread nD τ) arg17 fullShare (moeNext i (countW y1) (groupW y2 (expertW y0 i)) (groupW y3 (expertW y0 i)) x7 x8 x9 (moeInit i mo) (accStep i (xnNext i x0 x1 xn) x2 x3 x4 x5 x6 ac)) ∗ owns (c : Thread nD τ) arg18 fullShare (xnNext i x0 x1 xn) ∗ owns (c : Thread nD τ) arg19 fullShare (if k0_cond2 i (countW y1) = 1#1 then accStep i (xnNext i x0 x1 xn) x2 x3 x4 x5 x6 ac else ac) ∗ tbPt0 c tbM0_0 y0 ∗ tbPt0 c tbM0_1 y1 ∗ tbPt0 c tbM0_2 y2 ∗ tbPt0 c tbM0_3 y3) -∗ K ⟨⟩))
      ⊢ wp frame (wpE (defs₀ (F := F)) Variants.none c none) E (cc0_moe (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14 arg15 harg15 arg16 harg16 arg17 harg17 arg18 harg18 arg19 harg19) K := by
  rw [body_eq_segs, wp_bind]
  iintro ⟨H6, H7, H8, H9, H10, H11, H12, H13, H14, H15, H16, H17, H18, H19, HT0, HT1, HT2, HT3, Hk⟩
  iapply (segA_run c i arg6 harg6 arg7 harg7 arg8 harg8 arg9 harg9 arg10 harg10 arg11 harg11 arg12 harg12 arg13 harg13 arg14 harg14 arg15 harg15 arg16 harg16 arg17 harg17 arg18 harg18 arg19 harg19 x0 x1 mo xn E _)
  isplitl [H6]; · iexact H6
  isplitl [H7]; · iexact H7
  isplitl [H17]; · iexact H17
  isplitl [H18]; · iexact H18
  iintro ⟨H6, H7, H17, H18⟩
  iapply (count_run c y1 E _ _)
  isplitl [HT1]; · iexact HT1
  iintro HT1
  rw [wp_bind]
  iapply (segB_run c i arg6 harg6 arg7 harg7 arg8 harg8 arg9 harg9 arg10 harg10 arg11 harg11 arg12 harg12 arg13 harg13 arg14 harg14 arg15 harg15 arg16 harg16 arg17 harg17 arg18 harg18 arg19 harg19 (countW y1) y0 y2 y3 hchk x2 x3 x4 x5 x6 x7 x8 x9 _ _ ac E _)
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H17]; · iexact H17
  isplitl [H18]; · iexact H18
  isplitl [H19]; · iexact H19
  isplitl [HT0]; · iexact HT0
  isplitl [HT2]; · iexact HT2
  isplitl [HT3]; · iexact HT3
  iintro ⟨H8, H9, H10, H11, H12, H13, H14, H15, H17, H18, H19, HT0, HT2, HT3⟩
  rw [wp_bind]
  iapply (segC_run c i arg6 harg6 arg7 harg7 arg8 harg8 arg9 harg9 arg10 harg10 arg11 harg11 arg12 harg12 arg13 harg13 arg14 harg14 arg15 harg15 arg16 harg16 arg17 harg17 arg18 harg18 arg19 harg19 x0 ou _ E _)
  isplitl [H6]; · iexact H6
  isplitl [H16]; · iexact H16
  isplitl [H17]; · iexact H17
  iintro ⟨H6, H16, H17⟩
  sl_step; iapply Hk
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HT0]; · iexact HT0
  isplitl [HT1]; · iexact HT1
  isplitl [HT2]; · iexact HT2
  iexact HT3

end Cert.MoeIdeal.Hand

end
-- ==== Proof.MoePipe.lean ====
/- The expert kernel's pipeline under tables that name experts: what the scratch and the outputs' staging buffers hold
   after each grid point, the body's obligation, and the run. -/
module

public import proofs.«01_k».proof.Proof.MoeRun

public import Idealize.ShloMosaic.Lib.Claim

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the tables as the region finds them -/

/-- Each array as launched: the program is the one kernel call. -/
abbrev V (c : Dev nD) (b : Ref sig .tc) : Buf (Elt F) ((c : Thread nD τ).loc b) := m ((c : Thread nD τ).loc b)

set_option maxHeartbeats 800000 in
/-- The program is its one region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)

theorem V_pre (c : Dev nD) (j : Fin 4) : V m c (pre0.ref j) = tbl m j := by
  obtain rfl : c = 0 := Subsingleton.elim _ _
  rfl

/-- The tables name blocks that are inside the arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
abbrev ms0_0 (hO : Ok m) (t : Fin (cfgM m hO).N) := spec0_0.stage ((cfgM m hO).slots t 0)
abbrev hs0_0 (hO : Ok m) (t : Fin (cfgM m hO).N) := hstage0_0 (((cfgM m hO).slots t 0).cast nbuf0_0)
abbrev ms0_1 (hO : Ok m) (t : Fin (cfgM m hO).N) := spec0_1.stage ((cfgM m hO).slots t 1)
abbrev hs0_1 (hO : Ok m) (t : Fin (cfgM m hO).N) := hstage0_1 (((cfgM m hO).slots t 1).cast nbuf0_1)
abbrev ms0_2 (hO : Ok m) (t : Fin (cfgM m hO).N) := spec0_2.stage ((cfgM m hO).slots t 2)
abbrev hs0_2 (hO : Ok m) (t : Fin (cfgM m hO).N) := hstage0_2 (((cfgM m hO).slots t 2).cast nbuf0_2)
abbrev ms0_3 (hO : Ok m) (t : Fin (cfgM m hO).N) := spec0_3.stage ((cfgM m hO).slots t 3)
abbrev hs0_3 (hO : Ok m) (t : Fin (cfgM m hO).N) := hstage0_3 (((cfgM m hO).slots t 3).cast nbuf0_3)
abbrev ms0_4 (hO : Ok m) (t : Fin (cfgM m hO).N) := spec0_4.stage ((cfgM m hO).slots t 4)
abbrev hs0_4 (hO : Ok m) (t : Fin (cfgM m hO).N) := hstage0_4 (((cfgM m hO).slots t 4).cast nbuf0_4)
abbrev ms0_5 (hO : Ok m) (t : Fin (cfgM m hO).N) := spec0_5.stage ((cfgM m hO).slots t 5)
abbrev hs0_5 (hO : Ok m) (t : Fin (cfgM m hO).N) := hstage0_5 (((cfgM m hO).slots t 5).cast nbuf0_5)
abbrev ms0_6 (hO : Ok m) (t : Fin (cfgM m hO).N) := spec0_6.stage ((cfgM m hO).slots t 6)
abbrev hs0_6 (hO : Ok m) (t : Fin (cfgM m hO).N) := hstage0_6 (((cfgM m hO).slots t 6).cast nbuf0_6)
abbrev ms0_7 (hO : Ok m) (t : Fin (cfgM m hO).N) := spec0_7.stage ((cfgM m hO).slots t 7)
abbrev hs0_7 (hO : Ok m) (t : Fin (cfgM m hO).N) := hstage0_7 (((cfgM m hO).slots t 7).cast nbuf0_7)
abbrev ms0_8 (hO : Ok m) (t : Fin (cfgM m hO).N) := spec0_8.stage ((cfgM m hO).slots t 8)
abbrev hs0_8 (hO : Ok m) (t : Fin (cfgM m hO).N) := hstage0_8 (((cfgM m hO).slots t 8).cast nbuf0_8)
abbrev ms0_9 (hO : Ok m) (t : Fin (cfgM m hO).N) := spec0_9.stage ((cfgM m hO).slots t 9)
abbrev hs0_9 (hO : Ok m) (t : Fin (cfgM m hO).N) := hstage0_9 (((cfgM m hO).slots t 9).cast nbuf0_9)
abbrev ms0_10 (hO : Ok m) (t : Fin (cfgM m hO).N) := spec0_10.stage ((cfgM m hO).slots t 10)
abbrev hs0_10 (hO : Ok m) (t : Fin (cfgM m hO).N) := hstage0_10 (((cfgM m hO).slots t 10).cast nbuf0_10)
abbrev ms0_11 (hO : Ok m) (t : Fin (cfgM m hO).N) := spec0_11.stage ((cfgM m hO).slots t 11)
abbrev hs0_11 (hO : Ok m) (t : Fin (cfgM m hO).N) := hstage0_11 (((cfgM m hO).slots t 11).cast nbuf0_11)

/-- The body as the pipeline calls it at point `t`. -/
abbrev bodyAt0 (hO : Ok m) (t : Fin (cfgM m hO).N) : Prog (TpuEff nD τ sig (Elt F) Λ₀ .tc) PUnit :=
  cc0_moe (grid0.coords t) tbM0_0 htbM0_0 tbM0_1 htbM0_1 tbM0_2 htbM0_2 tbM0_3 htbM0_3 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _)

/-! ## What the scratch and the outputs hold -/

/-- The first point. -/
def tZ (hO : Ok m) : Fin (cfgM m hO).N := ⟨0, lt_of_lt_of_eq (by decide : 0 < 112) (show 112 = (cfgM m hO).N from N_0.symm)⟩

/-- The normalised tokens, which the first point stores in the scratch. -/
def xnv (hO : Ok m) (c : Dev nD) : Vec F S64x4096 .bf16 := k0_pay1 (iblk m hO c 0 (tZ m hO)) (iblk m hO c 1 (tZ m hO))

/-- One point's step of the sum over the hidden layer's blocks. -/
def accAt (hO : Ok m) (c : Dev nD) (t : Fin (cfgM m hO).N) (a : Vec F S64x4096 .f32) : Vec F S64x4096 .f32 :=
  accStep (grid0.coords t) (xnv m hO c) (iblk m hO c 2 t) (iblk m hO c 3 t) (iblk m hO c 4 t) (iblk m hO c 5 t) (iblk m hO c 6 t) a

/-- The sum over the hidden layer's blocks of the visited expert up to point `n` (it starts afresh at each expert). -/
def accv (hO : Ok m) (c : Dev nD) : (n : ℕ) → n < (cfgM m hO).N → Vec F S64x4096 .f32
  | 0, h => accAt m hO c ⟨0, h⟩ (k0_pay2 (F := F))
  | n + 1, h => accAt m hO c ⟨n + 1, h⟩ (accv hO c n (Nat.lt_of_succ_lt h))

/-- How many experts have rows, and a table's word for the expert visited at a point. -/
def cnt : BitVec 32 := countW (tbl m 1)
def startAt (i : grid0.Coords) : BitVec 32 := groupW (tbl m 2) (expertW (tbl m 0) i)
def endAt (i : grid0.Coords) : BitVec 32 := groupW (tbl m 3) (expertW (tbl m 0) i)

/-- One point's step of the result. -/
def moeAt (hO : Ok m) (c : Dev nD) (t : Fin (cfgM m hO).N) (prev : Vec F S64x4096 .f32) : Vec F S64x4096 .f32 :=
  moeNext (grid0.coords t) (cnt m) (startAt m (grid0.coords t)) (endAt m (grid0.coords t)) (iblk m hO c 7 t) (iblk m hO c 8 t) (iblk m hO c 9 t) prev (accv m hO c t.val t.isLt)

/-- The result after point `n`. -/
def moev (hO : Ok m) (c : Dev nD) : (n : ℕ) → n < (cfgM m hO).N → Vec F S64x4096 .f32
  | 0, h => moeAt m hO c ⟨0, h⟩ (k0_pay2 (F := F))
  | n + 1, h => moeAt m hO c ⟨n + 1, h⟩ (moev hO c n (Nat.lt_of_succ_lt h))

/-- The residual sum as the last point stores it. -/
def outv (hO : Ok m) (c : Dev nD) (t : Fin (cfgM m hO).N) : Vec F S64x4096 .bf16 := k0_pay4 (iblk m hO c 0 t) (moev m hO c t.val t.isLt)

/-! ## The invariant and the proof data -/

/-- Before the first point the scratch holds anything; afterwards the normalised tokens, and the sum of the last point
    if that point visited an expert. -/
def PhiS (hO : Ok m) (c : Dev nD) : (n : ℕ) → n ≤ (cfgM m hO).N → sProp 𝕄
  | 0, _ => Pipeline.ΦA spec0 c
  | n + 1, hn => iprop(iprop(owns (c : Thread nD τ) scM0_0 fullShare (xnv m hO c)
      ∗ (∃ a, ⌜k0_cond2 (grid0.coords ⟨n, hn⟩) (cnt m) = 1#1 → a = accv m hO c n hn⌝ ∗ owns (c : Thread nD τ) scM0_1 fullShare a)) ∗ (∃ r, prngReg c r))

theorem PhiS_zero (hO : Ok m) (c : Dev nD) (n : ℕ) (h : n ≤ (cfgM m hO).N) (hz : n = 0) : PhiS m hO c n h = Pipeline.ΦA spec0 c := by
  subst hz; rfl

theorem PhiS_succ (hO : Ok m) (c : Dev nD) (n : ℕ) (hn : n < (cfgM m hO).N) :
    PhiS m hO c (n + 1) hn = iprop(iprop(owns (c : Thread nD τ) scM0_0 fullShare (xnv m hO c)
      ∗ (∃ a, ⌜k0_cond2 (grid0.coords ⟨n, hn⟩) (cnt m) = 1#1 → a = accv m hO c n hn⌝ ∗ owns (c : Thread nD τ) scM0_1 fullShare a)) ∗ (∃ r, prngReg c r)) := rfl

/-- The proof data of the pipeline on core `c`: the arrays as the region finds them; each input's buffer at its block,
    each output's at its named contents. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => outv m hO c t
    | ⟨11, _⟩ => moev m hO c t.val t.isLt
  Φ t := iprop(PhiS m hO c t.val (Nat.le_of_lt_succ t.isLt) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem Phi_castSucc (hO : Ok m) (c : Dev nD) (t : Fin (cfgM m hO).N) :
    (dats m hO 0 c).Φ t.castSucc = iprop(PhiS m hO c t.val (Nat.le_of_lt t.isLt) ∗ Pipeline.ΦT pre0 (tbl m) c) := by
  dsimp only [dats]; rfl

theorem Phi_succ (hO : Ok m) (c : Dev nD) (t : Fin (cfgM m hO).N) :
    (dats m hO 0 c).Φ t.succ = iprop(PhiS m hO c (t.val + 1) t.isLt ∗ Pipeline.ΦT pre0 (tbl m) c) := by
  dsimp only [dats]; rfl

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = outv m hO c t := by dsimp only [dats]; try rfl
theorem after0_11 (hO : Ok m) (c : Dev nD) (t : Fin (cfgM m hO).N) : (dats m hO 0 c).after 11 t = moev m hO c t.val t.isLt := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d

/-! ## The points' conditions -/

theorem cond1_iff : ∀ t : Fin grid0.N, k0_cond1 (grid0.coords t) = 1#1 ↔ t.val = 0 := by decide +kernel
theorem cond5_iff : ∀ t : Fin grid0.N, k0_cond5 (grid0.coords t) = 1#1 ↔ t.val % 7 = 6 := by decide +kernel
theorem cond6_iff : ∀ t : Fin grid0.N, k0_cond6 (grid0.coords t) = 1#1 ↔ t.val = 111 := by decide +kernel
theorem block_of : ∀ t : Fin grid0.N, (grid0.coords t 1).val = t.val % 7 := by decide +kernel
theorem place_of : ∀ t : Fin grid0.N, (grid0.coords t 0).val = t.val / 7 := by decide +kernel

/-- Whether a point visits an expert is a matter of the expert's place in the order only. -/
theorem cond2_congr (i i' : grid0.Coords) (h : (i 0).val = (i' 0).val) (v : BitVec 32) : k0_cond2 i v = k0_cond2 i' v := by
  unfold k0_cond2; simp only [h]

/-- A table of one word has one place. -/
theorem one_place (p q : S1.Idx) : p = q := by
  funext a
  obtain rfl : a = 0 := Subsingleton.elim _ _
  exact Subsingleton.elim (α := Fin 1) _ _

/-- The table word the idle mask reads is the count of the experts that have rows. -/
theorem atD_cnt : (tbl m).atD 1 ![0] = cnt m := by
  unfold Pipeline.Prefetch.Contents.atD
  rw [dif_pos (by decide)]
  unfold cnt countW
  exact congrArg (tbl m 1 : S1.Idx → BitVec 32) (one_place _ _)

theorem idle_10 (hO : Ok m) (t : Fin (cfgM m hO).N) (h : t.val ≠ 111) : (cfgM m hO).idle 10 (grid0.coords t) = true := by
  show (!(k0_cond6 (grid0.coords t) == 1#1)) = true
  have e := cond6_iff t
  simp [show ¬ k0_cond6 (grid0.coords t) = 1#1 from fun h' => h (e.1 h')]

theorem live_10 (hO : Ok m) (t : Fin (cfgM m hO).N) (h : t.val = 111) : (cfgM m hO).idle 10 (grid0.coords t) = false := by
  show (!(k0_cond6 (grid0.coords t) == 1#1)) = false
  simp [(cond6_iff t).2 h]

theorem idle_11_eq (hO : Ok m) (t : Fin (cfgM m hO).N) :
    (cfgM m hO).idle 11 (grid0.coords t) = (!(k0_cond1 (grid0.coords t) == 1#1) && !(k0_cond2 (grid0.coords t) (cnt m) == 1#1 && k0_cond5 (grid0.coords t) == 1#1)) := by
  rw [← atD_cnt m]; rfl

theorem flush_10 (hO : Ok m) (t : Fin (cfgM m hO).N) (h : t.val ≠ 111) : ((cfgM m hO).win 10).flush t = false := by
  have e := Pipeline.Window.flush_const ((cfgM m hO).win 10) rfl (fun _ _ => rfl) (n := 112) (m := 111) N_0 rfl t
  have hN : t.val < 112 := lt_of_lt_of_eq t.isLt N_0
  rw [Bool.eq_false_iff]; intro h'; have := e.1 h'; omega

theorem flush_11 (hO : Ok m) (t : Fin (cfgM m hO).N) (h : t.val ≠ 111) : ((cfgM m hO).win 11).flush t = false := by
  have e := Pipeline.Window.flush_const ((cfgM m hO).win 11) rfl (fun _ _ => rfl) (n := 112) (m := 111) N_0 rfl t
  have hN : t.val < 112 := lt_of_lt_of_eq t.isLt N_0
  rw [Bool.eq_false_iff]; intro h'; have := e.1 h'; omega

/-- After the first point the result's buffer holds what the body stored. -/
theorem notFresh_11 (hO : Ok m) : ∀ n, 1 ≤ n → n ≤ 111 → (cfgM m hO).fresh 11 n = false := by
  intro n h1
  induction n, h1 using Nat.le_induction with
  | base =>
    intro _
    have h : 0 < (cfgM m hO).N := (tZ m hO).isLt
    rw [Pipeline.Cfg.fresh_succ _ _ 0 h, flush_11 m hO ⟨0, h⟩ (by show (0 : ℕ) ≠ 111; decide)]
    have e : (cfgM m hO).idle 11 (grid0.coords ⟨0, h⟩) = false := by rw [idle_11_eq, (cond1_iff ⟨0, h⟩).2 rfl]; rfl
    show (false || ((cfgM m hO).idle 11 (grid0.coords ⟨0, h⟩) && _)) = false
    rw [e]; rfl
  | succ n h1 ih =>
    intro h2
    have h : n < (cfgM m hO).N := lt_of_lt_of_eq (by omega : n < 112) N_0.symm
    rw [Pipeline.Cfg.fresh_succ _ _ n h, flush_11 m hO ⟨n, h⟩ (by show n ≠ 111; omega), ih (by omega), Bool.and_false, Bool.or_false]

/-- The result one step unfolded, after the first point. -/
theorem moev_pos (hO : Ok m) (c : Dev nD) (t : Fin (cfgM m hO).N) (h0 : t.val ≠ 0) :
    moev m hO c t.val t.isLt = moeAt m hO c t (moev m hO c (t.val - 1) (Nat.lt_of_le_of_lt (Nat.sub_le _ _) t.isLt)) := by
  obtain ⟨n, hn⟩ := t
  cases n with
  | zero => exact absurd rfl h0
  | succ n => rfl

/-- The sum one step unfolded, after the first point. -/
theorem accv_pos (hO : Ok m) (c : Dev nD) (t : Fin (cfgM m hO).N) (h0 : t.val ≠ 0) :
    accv m hO c t.val t.isLt = accAt m hO c t (accv m hO c (t.val - 1) (Nat.lt_of_le_of_lt (Nat.sub_le _ _) t.isLt)) := by
  obtain ⟨n, hn⟩ := t
  cases n with
  | zero => exact absurd rfl h0
  | succ n => rfl

/-- At an expert's first block the sum does not depend on what was there. -/
theorem accAt_first (hO : Ok m) (c : Dev nD) (t : Fin (cfgM m hO).N) (h : t.val % 7 = 0) (a a' : Vec F S64x4096 .f32) :
    accAt m hO c t a = accAt m hO c t a' := by
  have e : (grid0.coords t 1).val = 0 := (block_of t).trans h
  unfold accAt accStep
  rw [if_pos e, if_pos e]

/-- The result's buffer carries through the points that store nothing in it. -/
theorem hcarry_11 (hO : Ok m) (c : Dev nD) (t : Fin (cfgM m hO).N) (ht : t.val ≠ 0) (hi : (cfgM m hO).idle 11 (grid0.coords t) = true) (_ : (cfgM m hO).fresh 11 t.val = false) :
    (dats m hO 0 c).after 11 t = (dats m hO 0 c).after 11 ⟨t.val - 1, by omega⟩ := by
  rw [after0_11, after0_11, moev_pos m hO c t ht]
  rw [idle_11_eq] at hi
  unfold moeAt moeNext
  by_cases h2 : k0_cond2 (grid0.coords t) (cnt m) = 1#1
  · by_cases h5 : k0_cond5 (grid0.coords t) = 1#1
    · simp [h2, h5] at hi
    · rw [if_pos h2, if_neg h5]
  · rw [if_neg h2]

/-- After the first point the result's buffer holds the result up to the point before. -/
theorem before_11 (hO : Ok m) (c : Dev nD) (t : Fin (cfgM m hO).N) (h0 : t.val ≠ 0) (d) :
    (dats m hO 0 c).before 11 t d = moev m hO c (t.val - 1) (Nat.lt_of_le_of_lt (Nat.sub_le _ _) t.isLt) := by
  have hN : t.val < 112 := lt_of_lt_of_eq t.isLt N_0
  rw [Dat.before_out_traj _ 11 rfl (fun _ _ => rfl) (hcarry_11 m hO c) t.val t rfl d,
    if_neg (by rw [notFresh_11 m hO _ (by omega) (by omega)]; exact Bool.false_ne_true), after0_11]

/-- A window that holds what is to be left in it hands it back so, whether the point writes it back or not. -/
theorem leaves_of_eq (hO : Ok m) (c : Dev nD) (w : Fin (cfgM m hO).W) (t : Fin (cfgM m hO).N)
    (d₀) (hi : (cfgM m hO).idle w (grid0.coords t) = true → (dats m hO 0 c).before w t d₀ = (dats m hO 0 c).after w t) :
    (owns (c : Thread nD τ) (((cfgM m hO).win w).stage ((cfgM m hO).slots t w)) fullShare ((dats m hO 0 c).after w t) : sProp 𝕄)
      ⊢ (dats m hO 0 c).leavesExact w t := by
  cases hb : (cfgM m hO).idle w (grid0.coords t)
  · unfold Dat.leavesExact
    rw [show (cfgM m hO).idle w ((cfgM m hO).grid.coords t) = false from hb]
  · cases hf : ((cfgM m hO).win w).flush t
    · rw [Dat.leavesExact_idle _ w t hb hf]
      iintro H; iexists d₀; rw [hi hb]; iexact H
    · unfold Dat.leavesExact
      simp only [hf]
      split <;> exact .rfl

/-- A buffer's contents by another name. -/
theorem owns_congr {θ : Thread nD τ} {sp : Space} {s : Shape} {e : EltTy} {M : Memref sig θ.2.kind sp s e} {q} {x y : s.Idx → Elt F e} (h : x = y) :
    (owns θ M q x : sProp 𝕄) ⊢ owns θ M q y := by subst h; exact .rfl

/-- What the invariant holds before a point. -/
theorem Phi_open (hO : Ok m) (c : Dev nD) (t : Fin (cfgM m hO).N) :
    PhiS m hO c t.val (Nat.le_of_lt t.isLt) ⊢ iprop(∃ xn a, ⌜t.val ≠ 0 → xn = xnv m hO c ∧ (k0_cond2 (grid0.coords ⟨t.val - 1, Nat.lt_of_le_of_lt (Nat.sub_le _ _) t.isLt⟩) (cnt m) = 1#1
        → a = accv m hO c (t.val - 1) (Nat.lt_of_le_of_lt (Nat.sub_le _ _) t.isLt))⌝
      ∗ owns (c : Thread nD τ) scM0_0 fullShare xn ∗ owns (c : Thread nD τ) scM0_1 fullShare a ∗ (∃ r, prngReg c r)) := by
  obtain ⟨n, hn⟩ := t
  cases n with
  | zero =>
    rw [PhiS_zero m hO c _ _ rfl, PhiA0_eq]
    iintro ⟨⟨⟨%x, HX⟩, ⟨%a, HA⟩⟩, Hg⟩
    iexists x, a
    isplitr; · ipureintro; exact fun h => absurd rfl h
    isplitl [HX]; · iexact HX
    isplitl [HA]; · iexact HA
    iexact Hg
  | succ n =>
    rw [PhiS_succ]
    iintro ⟨⟨HX, ⟨%a, %ha, HA⟩⟩, Hg⟩
    iexists _, a
    isplitr; swap
    · isplitl [HX]; · iexact HX
      isplitl [HA]; · iexact HA
      iexact Hg
    ipureintro; exact fun _ => ⟨rfl, ha⟩

/-- The residual sum's buffer is left as the pipeline expects it: stored at the last point, untouched before. -/
theorem leaves_10 (hO : Ok m) (c : Dev nD) (t : Fin (cfgM m hO).N) (d10) :
    (owns (c : Thread nD τ) (ms0_10 m hO t) fullShare
      (if k0_cond6 (grid0.coords t) = 1#1 then k0_pay4 (iblk m hO c 0 t) (moev m hO c t.val t.isLt) else (dats m hO 0 c).before 10 t d10) : sProp 𝕄)
      ⊢ (dats m hO 0 c).leavesExact 10 t := by
  by_cases h6 : t.val = 111
  · refine (owns_congr (if_pos ((cond6_iff t).2 h6))).trans ?_
    have h := leaves_of_eq m hO c 10 t d10 (fun h => absurd (h.symm.trans (live_10 m hO t h6)) Bool.false_ne_true.symm)
    rw [after0_10] at h; exact h
  · refine (owns_congr (if_neg (fun h => h6 ((cond6_iff t).1 h)))).trans ?_
    rw [Dat.leavesExact_idle _ 10 t (idle_10 m hO t h6) (flush_10 m hO t h6)]
    iintro H; iexists d10; iexact H

variable (hE : ∀ i : grid0.Coords, (expertW (tbl m 0) i).toNat < 16)

section Step

variable (hO : Ok m) (c : Dev nD) (t : Fin (cfgM m hO).N) (xn : Vec F S64x4096 .bf16) (a mo : Vec F S64x4096 .f32)
  (hs : t.val ≠ 0 → xn = xnv m hO c ∧ (k0_cond2 (grid0.coords ⟨t.val - 1, Nat.lt_of_le_of_lt (Nat.sub_le _ _) t.isLt⟩) (cnt m) = 1#1
        → a = accv m hO c (t.val - 1) (Nat.lt_of_le_of_lt (Nat.sub_le _ _) t.isLt)))
  (hm : t.val ≠ 0 → mo = moev m hO c (t.val - 1) (Nat.lt_of_le_of_lt (Nat.sub_le _ _) t.isLt))

include hs in
/-- The scratch holds the normalised tokens after every point. -/
theorem xn_step : xnNext (grid0.coords t) (iblk m hO c 0 t) (iblk m hO c 1 t) xn = xnv m hO c := by
  unfold xnNext
  by_cases h : t.val = 0
  · obtain rfl : t = tZ m hO := Fin.ext h
    rw [if_pos ((cond1_iff _).2 h)]; rfl
  · rw [if_neg (fun h' => h ((cond1_iff t).1 h'))]; exact (hs h).1

include hs in
/-- The sum after a point that visits an expert. -/
theorem acc_step (h2 : k0_cond2 (grid0.coords t) (cnt m) = 1#1) : accAt m hO c t a = accv m hO c t.val t.isLt := by
  by_cases h : t.val = 0
  · obtain rfl : t = tZ m hO := Fin.ext h
    exact accAt_first m hO c _ rfl _ _
  · rw [accv_pos m hO c t h]
    by_cases h7 : t.val % 7 = 0
    · exact accAt_first m hO c t h7 _ _
    · congr 1
      refine (hs h).2 ?_
      rw [← h2]
      refine cond2_congr _ _ ?_ _
      rw [place_of ⟨t.val - 1, _⟩, place_of t]
      show (t.val - 1) / 7 = t.val / 7
      omega

include hm hs in
/-- The result after a point. -/
theorem moe_step : moeNext (grid0.coords t) (cnt m) (startAt m (grid0.coords t)) (endAt m (grid0.coords t)) (iblk m hO c 7 t) (iblk m hO c 8 t) (iblk m hO c 9 t)
    (moeInit (grid0.coords t) mo) (accAt m hO c t a) = moev m hO c t.val t.isLt := by
  have e : moeNext (grid0.coords t) (cnt m) (startAt m (grid0.coords t)) (endAt m (grid0.coords t)) (iblk m hO c 7 t) (iblk m hO c 8 t) (iblk m hO c 9 t)
      (moeInit (grid0.coords t) mo) (accAt m hO c t a) = moeAt m hO c t (moeInit (grid0.coords t) mo) := by
    unfold moeAt
    by_cases h2 : k0_cond2 (grid0.coords t) (cnt m) = 1#1
    · rw [acc_step m hO c t xn a hs h2]
    · unfold moeNext; rw [if_neg h2, if_neg h2]
  rw [e]
  unfold moeInit
  by_cases h : t.val = 0
  · obtain rfl : t = tZ m hO := Fin.ext h
    rw [if_pos ((cond1_iff _).2 h)]; rfl
  · rw [if_neg (fun h' => h ((cond1_iff t).1 h')), hm h, moev_pos m hO c t h]

end Step

/-! ## The body obligation -/

/-- What the body is called with at point `t`, -/
def bodyPre (hO : Ok m) (c : Dev nD) (t : Fin (cfgM m hO).N) : sProp 𝕄 :=
  iprop((dats m hO 0 c).Φ t.castSucc
    ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

/-- and what it returns. -/
def bodyPost (hO : Ok m) (c : Dev nD) (t : Fin (cfgM m hO).N) : sProp 𝕄 :=
  iprop((dats m hO 0 c).Φ t.succ
    ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t)

include hE in
set_option maxHeartbeats 4800000 in
/-- The body at any point. -/
theorem sound_body (hO : Ok m) (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0, before0_1, before0_2, before0_3, before0_4, before0_5, before0_6, before0_7, before0_8, before0_9]
  rw [show (dats m hO 0 c).owesAt () t.succ = (dats m hO 0 c).owesAt () t.castSucc from rfl, Phi_castSucc, Phi_succ, PhiS_succ, PhiT0_eq]
  have hN : t.val < 112 := lt_of_lt_of_eq t.isLt (show (cfgM m hO).N = 112 from N_0)
  rw [show (dats m hO 0 c).leavesExact 0 t = owns (c : Thread nD τ) (ms0_0 m hO t) fullShare ((dats m hO 0 c).after 0 t) from by unfold Dat.leavesExact; rw [show (cfgM m hO).idle 0 ((cfgM m hO).grid.coords t) = false from rfl]; try rfl, after0_0]
  rw [show (dats m hO 0 c).leavesExact 1 t = owns (c : Thread nD τ) (ms0_1 m hO t) fullShare ((dats m hO 0 c).after 1 t) from by unfold Dat.leavesExact; rw [show (cfgM m hO).idle 1 ((cfgM m hO).grid.coords t) = false from rfl]; try rfl, after0_1]
  rw [show (dats m hO 0 c).leavesExact 2 t = owns (c : Thread nD τ) (ms0_2 m hO t) fullShare ((dats m hO 0 c).after 2 t) from by unfold Dat.leavesExact; rw [show (cfgM m hO).idle 2 ((cfgM m hO).grid.coords t) = false from rfl]; try rfl, after0_2]
  rw [show (dats m hO 0 c).leavesExact 3 t = owns (c : Thread nD τ) (ms0_3 m hO t) fullShare ((dats m hO 0 c).after 3 t) from by unfold Dat.leavesExact; rw [show (cfgM m hO).idle 3 ((cfgM m hO).grid.coords t) = false from rfl]; try rfl, after0_3]
  rw [show (dats m hO 0 c).leavesExact 4 t = owns (c : Thread nD τ) (ms0_4 m hO t) fullShare ((dats m hO 0 c).after 4 t) from by unfold Dat.leavesExact; rw [show (cfgM m hO).idle 4 ((cfgM m hO).grid.coords t) = false from rfl]; try rfl, after0_4]
  rw [show (dats m hO 0 c).leavesExact 5 t = owns (c : Thread nD τ) (ms0_5 m hO t) fullShare ((dats m hO 0 c).after 5 t) from by unfold Dat.leavesExact; rw [show (cfgM m hO).idle 5 ((cfgM m hO).grid.coords t) = false from rfl]; try rfl, after0_5]
  rw [show (dats m hO 0 c).leavesExact 6 t = owns (c : Thread nD τ) (ms0_6 m hO t) fullShare ((dats m hO 0 c).after 6 t) from by unfold Dat.leavesExact; rw [show (cfgM m hO).idle 6 ((cfgM m hO).grid.coords t) = false from rfl]; try rfl, after0_6]
  rw [show (dats m hO 0 c).leavesExact 7 t = owns (c : Thread nD τ) (ms0_7 m hO t) fullShare ((dats m hO 0 c).after 7 t) from by unfold Dat.leavesExact; rw [show (cfgM m hO).idle 7 ((cfgM m hO).grid.coords t) = false from rfl]; try rfl, after0_7]
  rw [show (dats m hO 0 c).leavesExact 8 t = owns (c : Thread nD τ) (ms0_8 m hO t) fullShare ((dats m hO 0 c).after 8 t) from by unfold Dat.leavesExact; rw [show (cfgM m hO).idle 8 ((cfgM m hO).grid.coords t) = false from rfl]; try rfl, after0_8]
  rw [show (dats m hO 0 c).leavesExact 9 t = owns (c : Thread nD τ) (ms0_9 m hO t) fullShare ((dats m hO 0 c).after 9 t) from by unfold Dat.leavesExact; rw [show (cfgM m hO).idle 9 ((cfgM m hO).grid.coords t) = false from rfl]; try rfl, after0_9]
  iintro ⟨⟨HP, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HP := (Phi_open m hO c t) $$ HP
  icases HP with ⟨%xn, %a, %hs, HX, HA, Hg⟩
  have hm := fun h0 => before_11 m hO c t h0 d11
  have hX := xn_step m hO c t xn a hs
  have hM := moe_step m hO c t xn a _ hs hm
  iapply (run c (grid0.coords t) _ _ _ _ _ _ _ _ _ _ _ _ _ _ _ _ _ _ _ _ _ _ _ _ _ _ _ _ (tbl m 0) (tbl m 1) (tbl m 2) (tbl m 3) (hE _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) ((dats m hO 0 c).before 10 t d10) ((dats m hO 0 c).before 11 t d11) xn a Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HX]; · iexact HX
  isplitl [HA]; · iexact HA
  isplitl [HT0]; · iexact HT0
  isplitl [HT1]; · iexact HT1
  isplitl [HT2]; · iexact HT2
  isplitl [HT3]; · iexact HT3
  rw [hX]
  rw [show moeNext (grid0.coords t) (countW (tbl m 1)) (groupW (tbl m 2) (expertW (tbl m 0) (grid0.coords t))) (groupW (tbl m 3) (expertW (tbl m 0) (grid0.coords t))) (iblk m hO c 7 t) (iblk m hO c 8 t) (iblk m hO c 9 t)
      (moeInit (grid0.coords t) ((dats m hO 0 c).before 11 t d11)) (accStep (grid0.coords t) (xnv m hO c) (iblk m hO c 2 t) (iblk m hO c 3 t) (iblk m hO c 4 t) (iblk m hO c 5 t) (iblk m hO c 6 t) a) = moev m hO c t.val t.isLt from hM]
  iintro ⟨H0, H1, H2, H3, H4, H5, H6, H7, H8, H9, H10, H11, HX, HA, HT0, HT1, HT2, HT3⟩
  isplitl [HX HA Hg HT0 HT1 HT2 HT3]
  · isplitl [HX HA Hg]
    · isplitl [HX HA]
      · isplitl [HX]; · iexact HX
        iexists _
        isplitr; swap; · iexact HA
        ipureintro
        intro h2
        exact (if_pos (show k0_cond2 (grid0.coords t) (countW (tbl m 1)) = 1#1 from h2)).trans (acc_step m hO c t xn a hs h2)
      iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (leaves_10 m hO c t d10); iexact H10
  iapply (leaves_of_eq m hO c 11 t d11 (fun hi => by
    have h0 : t.val ≠ 0 := by
      intro h0
      rw [idle_11_eq, (cond1_iff t).2 h0] at hi
      exact absurd hi (by simp)
    rw [before_11 m hO c t h0 d11]
    have h := hcarry_11 m hO c t h0 hi (notFresh_11 m hO _ (by omega) (by omega))
    rw [h, after0_11]))
  rw [after0_11]; iexact H11

/-- The body table's row at point `t`'s slots is the body. -/
theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

include hE in
/-- The pipeline's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hE hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = iprop(PhiS m hO c 0 (Nat.zero_le _) ∗ Pipeline.ΦT pre0 (tbl m) c) from rfl, PhiS_zero m hO c 0 _ rfl]
  try exact Idealize.SL.BI.Entails.refl _

theorem hout (hO : Ok m) (c : Dev nD) : (dats m hO 0 c).Φ (Fin.last (cfgM m hO).N) ⊢ Pipeline.ΦA spec0 c := by
  have hl : 111 < (cfgM m hO).N := lt_of_lt_of_eq (by decide : 111 < 112) N_0.symm
  rw [show (dats m hO 0 c).Φ (Fin.last (cfgM m hO).N) = iprop(PhiS m hO c (111 + 1) hl ∗ Pipeline.ΦT pre0 (tbl m) c) from rfl, PhiS_succ, PhiA0_eq]
  iintro ⟨⟨⟨HX, ⟨%a, -, HA⟩⟩, Hg⟩, -⟩
  isplitl [HX HA]
  · isplitl [HX]
    · iexists _; iexact HX
    iexists a; iexact HA
  iexact Hg

/-! ## The run and the frame -/

include hE in
set_option backward.isDefEq.respectTransparency.types false in
/-- The run: every array of the pipeline ends at what its proof data says, every other buffer as launched, every
    semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hE hO c).loose) (hshare := fun c => (dats m hO 0 c).share_full fun _ => rfl)
    (howed := fun _ _ => rfl) (V := V m) (hmain := hmain m Variants.none) (hA := A_eq m hO) (hpf := V_pre m) (hin := hin m hO) (hout := hout m hO)

include hE in
/-- The frame: the run ends, the arguments unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3)),
      ((h.1 c).1 4).trans (((dats m hO 0 c).arrAt_in 4 rfl _).trans (A_eq m hO c 4)),
      ((h.1 c).1 5).trans (((dats m hO 0 c).arrAt_in 5 rfl _).trans (A_eq m hO c 5)),
      ((h.1 c).1 6).trans (((dats m hO 0 c).arrAt_in 6 rfl _).trans (A_eq m hO c 6)),
      ((h.1 c).1 7).trans (((dats m hO 0 c).arrAt_in 7 rfl _).trans (A_eq m hO c 7)),
      ((h.1 c).1 8).trans (((dats m hO 0 c).arrAt_in 8 rfl _).trans (A_eq m hO c 8)),
      ((h.1 c).1 9).trans (((dats m hO 0 c).arrAt_in 9 rfl _).trans (A_eq m hO c 9)),
      (h.1 c).2 main_arg14 (by decide : main_arg14 ∈ Pipeline.restRefs sig spec0)⟩, h.2⟩) (run_main_quiescent m ρ hE hO)

end Cert.MoeIdeal.Hand

end
-- ==== Proof.MoePre.lean ====
/- The precondition of the expert kernel, read: the four tables are a routing. -/
module

public import proofs.«01_k».proof.Proof.Gen.Pre_routing_tables
public import Idealize.ShloMosaic.Lib.Pointwise
public import Idealize.ShloMosaic.Lib.WordCmp

@[expose] public section

set_option maxRecDepth 16384

noncomputable section

namespace Cert.Pre_routing_tables.Hand

open Cert.Pre_routing_tables Cert.Pre_routing_tables.Gen
open Idealize.ShloMosaic Cert.Pre_routing_tables.Facts

local instance : Cert.Pre_routing_tables.Facts := Cert.Pre_routing_tables.Gen.facts

variable {F : FTy → Type} [FloatOps F]

/-- A fold by `or` from 0 that is 1 had a 1 at some place. -/
theorem fold_ori {α : Type} [DecidableEq α] (f : α → BitVec 1) (l : Finset α) (h : Finset.fold IntOp.ori (0#1) f l = 1#1) :
    ∃ a ∈ l, f a = 1#1 := by
  induction l using Finset.induction_on with
  | empty => exact absurd (show (0#1 : BitVec 1) = 1#1 from h) (by decide)
  | insert a l ha ih =>
    rw [Finset.fold_insert ha] at h
    have : ∀ x y : BitVec 1, IntOp.ori x y = 1#1 → x = 1#1 ∨ y = 1#1 := by decide
    rcases this _ _ h with h | h
    · exact ⟨a, Finset.mem_insert_self .., h⟩
    · obtain ⟨b, hb, e⟩ := ih h
      exact ⟨b, Finset.mem_insert_of_mem hb, e⟩

theorem andi_one (x y : BitVec 1) : IntOp.andi x y = 1#1 ↔ x = 1#1 ∧ y = 1#1 := by revert x y; decide
theorem ori_one (x y : BitVec 1) : IntOp.ori x y = 1#1 ↔ x = 1#1 ∨ y = 1#1 := by revert x y; decide
theorem ofBool_one (p : Bool) : (BitVec.ofBool p = 1#1) ↔ p = true := by cases p <;> decide
theorem sge_one (x y : BitVec 32) : IntOp.cmpi .sge x y = 1#1 ↔ y.toInt ≤ x.toInt := by
  simp [IntOp.cmpi, ofBool_one, BitVec.sle]
theorem sle_one (x y : BitVec 32) : IntOp.cmpi .sle x y = 1#1 ↔ x.toInt ≤ y.toInt := by
  simp [IntOp.cmpi, ofBool_one, BitVec.sle]
theorem slt_one (x y : BitVec 32) : IntOp.cmpi .slt x y = 1#1 ↔ x.toInt < y.toInt := by
  simp [IntOp.cmpi, ofBool_one, BitVec.slt]
theorem eq_one (x y : BitVec 32) : IntOp.cmpi .eq x y = 1#1 ↔ x = y := by
  simp [IntOp.cmpi, ofBool_one]
theorem ne_one (x y : BitVec 32) : IntOp.cmpi .ne x y = 1#1 ↔ x ≠ y := by
  simp [IntOp.cmpi, ofBool_one]

/-- A word between 0 and `n`, read signed. -/
theorem toInt_small (x : BitVec 32) (n : ℕ) (hn : n < 2 ^ 31) (h0 : 0 ≤ x.toInt) (h : x.toInt < n) : x.toNat < n := by
  rw [BitVec.toInt] at h0 h
  split at h <;> omega

theorem toInt_ofNat_small (n : ℕ) (hn : n < 2 ^ 31) : (BitVec.ofNat 32 n).toInt = n := by
  rw [BitVec.toInt, BitVec.toNat_ofNat, Nat.mod_eq_of_lt (by omega), if_pos (by omega)]

/-- The tables are a routing. `order` names experts, all different among its first `n`, and every expert that has
    rows is among them; the experts' groups of rows do not overlap; each of a token's two rows is a row, of that
    token, and weighted by no negative number. -/
structure Routing (order : S16.Idx → BitVec 32) (count : S1.Idx → BitVec 32) (starts ends : S16.Idx → BitVec 32)
    (inv : S64x2.Idx → BitVec 32) (weights : FVec F S64x2 .f32) (tokens : S128.Idx → BitVec 32) : Prop where
  named : ∀ g : Fin 16, (order (ix1 g)).toNat < 16
  different : ∀ g h : Fin 16, g.val < (count (ix1 0)).toInt.toNat → h.val < (count (ix1 0)).toInt.toNat → order (ix1 g) = order (ix1 h) → g = h
  apart : ∀ g h : Fin 16, g ≠ h → (ends (ix1 g)).toInt ≤ (starts (ix1 g)).toInt ∨ (ends (ix1 h)).toInt ≤ (starts (ix1 h)).toInt ∨
    (ends (ix1 g)).toInt ≤ (starts (ix1 h)).toInt ∨ (ends (ix1 h)).toInt ≤ (starts (ix1 g)).toInt
  covered : ∀ e : Fin 16, (ends (ix1 e)).toInt ≤ (starts (ix1 e)).toInt ∨
    ∃ g : Fin 16, g.val < (count (ix1 0)).toInt.toNat ∧ (order (ix1 g)).toNat = e.val
  inside : ∀ (t : Fin 64) (k : Fin 2), (inv (ix2 t k)).toNat < 128
  weight : ∀ (t : Fin 64) (k : Fin 2), FloatOps.cmpf .oge (weights (ix2 t k)) (FloatOps.ofBits .f32 0#32) = 1#1
  own : ∀ (t : Fin 64) (k : Fin 2) (r : Fin 128), (inv (ix2 t k)).toNat = r.val → tokens (ix1 r) = BitVec.ofNat 32 t.val

/-- The precondition says that the tables are a routing. -/
theorem routing_of (a0 : IVec S16 32) (a1 : IVec S1 32) (a2 a3 : IVec S16 32) (a4) (a5) (a6) (a7) (a8) (a9) (a10) (a11)
    (a12 : IVec S64x2 32) (a13 : FVec F S64x2 .f32) (a14 : IVec S128 32)
    (e : Cert.Pre_routing_tables.fn (F := F) a0 a1 a2 a3 a4 a5 a6 a7 a8 a9 a10 a11 a12 a13 a14 = fun _ => 1#1) :
    Routing a0 a1 a2 a3 a12 a13 a14 := by
  have key : ∀ (g h : Fin 16) (t : Fin 64) (k : Fin 2) (r : Fin 128),
      Cert.Pre_routing_tables.fn (F := F) a0 a1 a2 a3 a4 a5 a6 a7 a8 a9 a10 a11 a12 a13 a14 (ix5 g h t k r) = 1#1 ↔
      ((((((g.val = h.val ∨ (a1 (ix1 0)).toInt ≤ g.val) ∨ (a1 (ix1 0)).toInt ≤ h.val) ∨ a0 (ix1 g) ≠ a0 (ix1 h)) ∧
        ((((g.val = h.val ∨ (a3 (ix1 g)).toInt ≤ (a2 (ix1 g)).toInt) ∨ (a3 (ix1 h)).toInt ≤ (a2 (ix1 h)).toInt) ∨
          (a3 (ix1 g)).toInt ≤ (a2 (ix1 h)).toInt) ∨ (a3 (ix1 h)).toInt ≤ (a2 (ix1 g)).toInt)) ∧ (0 ≤ (a0 (ix1 h)).toInt ∧ (a0 (ix1 h)).toInt < 16)) ∧
        ((a3 (ix1 h)).toInt ≤ (a2 (ix1 h)).toInt ∨ Finset.fold IntOp.ori (0#1) (fun x : Fin 16 =>
          IntOp.andi (IntOp.cmpi .eq (a0 (ix1 x)) (BitVec.ofNat 32 h.val)) (IntOp.cmpi .slt (BitVec.ofNat 32 x.val) (a1 (ix1 0)))) Finset.univ = 1#1)) ∧
      (((0 ≤ (a12 (ix2 t k)).toInt ∧ (a12 (ix2 t k)).toInt < 128) ∧ FloatOps.cmpf .oge (a13 (ix2 t k)) (FloatOps.ofBits .f32 0#32) = 1#1) ∧
        (a12 (ix2 t k) ≠ BitVec.ofNat 32 r.val ∨ a14 (ix1 r) = BitVec.ofNat 32 t.val)) := by
    intro g h t k r
    have hg := toInt_ofNat_small g.val (by omega)
    have hh := toInt_ofNat_small h.val (by omega)
    have hgh : BitVec.ofNat 32 g.val = BitVec.ofNat 32 h.val ↔ g.val = h.val :=
      ⟨fun e => by have := congrArg BitVec.toInt e; omega, fun e => by rw [e]⟩
    have h0 : (0#32).toInt = 0 := rfl
    have h16 : (16#32).toInt = 16 := rfl
    have h128 : (128#32).toInt = 128 := rfl
    pointwise [Cert.Pre_routing_tables.fn, Cert.Pre_routing_tables.fn_part1, Cert.Pre_routing_tables.fn_part2, Cert.Pre_routing_tables.fn_part3, Cert.Pre_routing_tables.fn_part4]
    simp only [andi_one, ori_one, sge_one, sle_one, slt_one, eq_one, ne_one, hg, hh, hgh, h0, h16, h128]
  have all := fun g h t k r => (key g h t k r).1 (congrFun e _)
  clear key e
  refine ⟨fun g => ?_, fun g h hg hh eq => ?_, fun g h hlt => ?_, fun x => ?_, fun t k => ?_, fun t k => ?_, fun t k r hr => ?_⟩
  · obtain ⟨⟨⟨_, h0, h16⟩, _⟩, _⟩ := all 0 g 0 0 0
    exact toInt_small _ 16 (by omega) h0 h16
  · obtain ⟨⟨⟨⟨hd, _⟩, _⟩, _⟩, _⟩ := all g h 0 0 0
    rcases hd with ((hd | hd) | hd) | hd
    · exact Fin.ext hd
    · omega
    · omega
    · exact absurd eq hd
  · obtain ⟨⟨⟨⟨_, ha⟩, _⟩, _⟩, _⟩ := all g h 0 0 0
    rcases ha with (((ha | ha) | ha) | ha) | ha
    · exact absurd (Fin.ext ha) hlt
    · exact .inl ha
    · exact .inr (.inl ha)
    · exact .inr (.inr (.inl ha))
    · exact .inr (.inr (.inr ha))
  · obtain ⟨⟨_, hc⟩, _⟩ := all 0 x 0 0 0
    rcases hc with hc | hc
    · exact .inl hc
    · obtain ⟨g, _, hg⟩ := fold_ori _ _ hc
      rw [andi_one, eq_one, slt_one, toInt_ofNat_small g.val (by omega)] at hg
      exact .inr ⟨g, by omega, by rw [hg.1, BitVec.toNat_ofNat]; omega⟩
  · obtain ⟨_, ⟨⟨h0, h128⟩, _⟩, _⟩ := all 0 0 t k 0
    exact toInt_small _ 128 (by omega) h0 h128
  · obtain ⟨_, ⟨_, hw⟩, _⟩ := all 0 0 t k 0
    exact hw
  · obtain ⟨_, _, ho⟩ := all 0 0 t k r
    rcases ho with ho | ho
    · exact absurd (by rw [← hr]; simp) ho
    · exact ho

end Cert.Pre_routing_tables.Hand
-- ==== Proof.MoeBlocks.lean ====
/- Which block of the experts' weights the expert kernel holds at a point, and that the blocks lie in their arrays when
   the tables are a routing. -/
module

public import proofs.«01_k».proof.Proof.MoePipe
public import proofs.«01_k».proof.Proof.MoePre

@[expose] public section

set_option maxRecDepth 16384

noncomputable section

namespace Cert.MoeIdeal.Hand

open Cert.MoeIdeal Cert.MoeIdeal.Gen
open Idealize.ShloMosaic Idealize.ShloMosaic.TcCoe

variable {F : FTy → Type} [FloatOps F]

/-- The block of 512 columns held at a point: the point's own while the expert visited is among those that have rows,
    the last one afterwards. -/
def jW (x : S1.Idx → BitVec 32) (i : grid0.Coords) : BitVec 32 :=
  Scalar.select (Scalar.cmpi .sge (BitVec.ofNat 32 (i 0).val) (countW x)) 6#32 (BitVec.ofNat 32 (i 1).val)

theorem jW_lt (x : S1.Idx → BitVec 32) (i : grid0.Coords) : (jW x i).toNat < 7 := by
  have h : (i 1).val < 7 := (i 1).isLt
  unfold jW Scalar.select
  split
  · decide
  · rw [BitVec.toNat_ofNat]; omega

/-- The word of a table that an index map reads. -/
theorem at_order (pf : pre0.Contents (Elt F)) (i : grid0.Coords) (h) (h1) :
    pf.at 0 (Rect.unit (s := S16) ![(Scalar.indexCast (BitVec.ofNat 32 (i 0).val)).toNat] S1.size h) h1 = expertW (pf 0) i := by
  have e : (Scalar.indexCast (BitVec.ofNat 32 (i 0).val)).toNat = (i 0).val := by
    have h16 : (i 0).val < 16 := (i 0).isLt
    simp [Scalar.indexCast]; omega
  show (pf 0 : S16.Idx → BitVec 32) ((Rect.unit (s := S16) _ S1.size h).toLoadRect.idx (Shape.Idx.first _)) = _
  refine (tab_at (α := BitVec 32) (pf 0) _ h _ (by show (Scalar.indexCast (BitVec.ofNat 32 (i 0).val)).toNat < 16; rw [e]; exact (i 0).isLt)).trans ?_
  unfold expertW; congr 2; exact Fin.ext e

theorem at_count (pf : pre0.Contents (Elt F)) (h) (h1) :
    pf.at 1 (Rect.unit (s := S1) ![0] S1.size h) h1 = countW (pf 1) := by
  show (pf 1 : S1.Idx → BitVec 32) ((Rect.unit (s := S1) ![0] S1.size h).toLoadRect.idx (Shape.Idx.first _)) = _
  unfold countW; congr 1; funext a
  obtain rfl : a = 0 := Subsingleton.elim _ _
  exact Subsingleton.elim (α := Fin 1) _ _

/-- The block of the weights into the hidden columns, of their scales, and of the weights out of them. -/
theorem map_up (pf : pre0.Contents (Elt F)) (i : grid0.Coords) :
    cc0_transform_2 inb_S1_S1_0 numel1_S1 k0_off1_inb pf i = ![(expertW (pf 0) i).toNat, 0, (jW (pf 1) i).toNat] := by
  have e := at_order pf i (k0_off1_inb i) numel1_S1
  have e' := at_count pf inb_S1_S1_0 numel1_S1
  unfold cc0_transform_2 jW
  simp only [e, e']
  try rfl

theorem map_down (pf : pre0.Contents (Elt F)) (i : grid0.Coords) :
    cc0_transform_6 inb_S1_S1_0 numel1_S1 k0_off1_inb pf i = ![(expertW (pf 0) i).toNat, (jW (pf 1) i).toNat, 0] := by
  have e := at_order pf i (k0_off1_inb i) numel1_S1
  have e' := at_count pf inb_S1_S1_0 numel1_S1
  unfold cc0_transform_6 jW
  simp only [e, e']
  try rfl

theorem map_scale (pf : pre0.Contents (Elt F)) (i : grid0.Coords) :
    cc0_transform_7 k0_off1_inb numel1_S1 pf i = ![(expertW (pf 0) i).toNat, 0, 0] := by
  have e := at_order pf i (k0_off1_inb i) numel1_S1
  unfold cc0_transform_7
  simp only [e]
  try rfl

/-- A block of 512 columns of one expert lies in the array. -/
theorem up_inb (e j : ℕ) (he : e < 16) (hj : j < 7) (n : ℕ) (a : Fin 3) :
    (![e, 0, j] a + 1) * ![1, n, 512] a ≤ ![16, n, 3584] a := by
  match a with
  | ⟨0, _⟩ => show (e + 1) * 1 ≤ 16; omega
  | ⟨1, _⟩ => show (0 + 1) * n ≤ n; omega
  | ⟨2, _⟩ => show (j + 1) * 512 ≤ 3584; omega

/-- A block of the experts' weights into the hidden columns is in the array and made of whole words. -/
theorem ok_up (f : Fin 3 → ℕ) (e j : ℕ) (hf : f = ![e, 0, j]) (he : e < 16) (hj : j < 7) :
    ∃ h : (∀ a, (f a + 1) * S1x4096x512.size a ≤ S16x4096x3584.size a),
      EltTy.bits .i8 = 32 ∨ (Rect.block (s := S16x4096x3584) S1x4096x512.size f h).WholeWords (EltTy.packing .i8) := by
  have h2 : 2 ≤ S16x4096x3584.rank := by decide
  have hr : S16x4096x3584.rowAx h2 = 1 := rfl
  refine ⟨fun a => by subst hf; exact up_inb e j he hj 4096 a, .inr (.inr ⟨h2, ?_, ?_, ?_⟩)⟩
  · rfl
  · rw [hr]; subst hf; exact Nat.zero_mul _
  · rw [hr]; rfl

/-- A block of their scales is in the array. -/
theorem ok_upScale (f : Fin 3 → ℕ) (e j : ℕ) (hf : f = ![e, 0, j]) (he : e < 16) (hj : j < 7) :
    ∃ h : (∀ a, (f a + 1) * S1x1x512.size a ≤ S16x1x3584.size a),
      EltTy.bits .f32 = 32 ∨ (Rect.block (s := S16x1x3584) S1x1x512.size f h).WholeWords (EltTy.packing .f32) :=
  ⟨fun a => by subst hf; exact up_inb e j he hj 1 a, .inl rfl⟩

/-- A block of the experts' weights out of the hidden columns is in the array and made of whole words. -/
theorem ok_down (f : Fin 3 → ℕ) (e j : ℕ) (hf : f = ![e, j, 0]) (he : e < 16) (hj : j < 7) :
    ∃ h : (∀ a, (f a + 1) * S1x512x4096.size a ≤ S16x3584x4096.size a),
      EltTy.bits .i8 = 32 ∨ (Rect.block (s := S16x3584x4096) S1x512x4096.size f h).WholeWords (EltTy.packing .i8) := by
  have h2 : 2 ≤ S16x3584x4096.rank := by decide
  have hr : S16x3584x4096.rowAx h2 = 1 := rfl
  refine ⟨fun a => ?_, .inr (.inl (.inr ⟨h2, ?_, .inl ⟨?_, ?_⟩⟩))⟩
  · subst hf
    match a with
    | ⟨0, _⟩ => show (e + 1) * 1 ≤ 16; omega
    | ⟨1, _⟩ => show (j + 1) * 512 ≤ 3584; omega
    | ⟨2, _⟩ => show (0 + 1) * 4096 ≤ 4096; omega
  · rfl
  · rw [hr]; exact Dvd.dvd.mul_left (show 4 ∣ 512 by decide) (f 1)
  · rw [hr]; exact (show 4 ∣ 512 by decide)

/-- A row of their scales is in the array. -/
theorem ok_downScale (f : Fin 3 → ℕ) (e : ℕ) (hf : f = ![e, 0, 0]) (he : e < 16) :
    ∃ h : (∀ a, (f a + 1) * S1x1x4096.size a ≤ S16x1x4096.size a),
      EltTy.bits .f32 = 32 ∨ (Rect.block (s := S16x1x4096) S1x1x4096.size f h).WholeWords (EltTy.packing .f32) :=
  ⟨fun a => by
    subst hf
    match a with
    | ⟨0, _⟩ => show (e + 1) * 1 ≤ 16; omega
    | ⟨1, _⟩ => show (0 + 1) * 1 ≤ 1; omega
    | ⟨2, _⟩ => show (0 + 1) * 4096 ≤ 4096; omega, .inl rfl⟩

/-- Blocks inside the arrays, at tables that list experts. -/
theorem ok_of (pf : pre0.Contents (Elt F)) (hE : ∀ i : grid0.Coords, (expertW (pf 0) i).toNat < 16) : ok0 pf :=
  ⟨fun i => ok_up _ _ _ (map_up pf i) (hE i) (jW_lt _ i), fun i => ok_upScale _ _ _ (map_up pf i) (hE i) (jW_lt _ i),
   fun i => ok_up _ _ _ (map_up pf i) (hE i) (jW_lt _ i), fun i => ok_upScale _ _ _ (map_up pf i) (hE i) (jW_lt _ i),
   fun i => ok_down _ _ _ (map_down pf i) (hE i) (jW_lt _ i), fun i => ok_downScale _ _ (map_scale pf i) (hE i)⟩

end Cert.MoeIdeal.Hand
-- ==== Proof.MoeMath.lean ====
/- The arithmetic of the experts over the extended reals: one expert's output for one token, and the two ways of adding
   up the experts' outputs. -/
module

public import Idealize.ShloMosaic.Lib.Pointwise
public import Idealize.ShloMosaic.Lib.Pipeline.ValueKit

@[expose] public section

noncomputable section

namespace Cert.MoeMath

open Idealize.ShloMosaic

/-- A weight, as a number. -/
def num (w : BitVec 8) : EReal := FloatOps.sitofp (F := Ideal) .bf16 w

/-- Widening a weight first does not change the number. -/
theorem num_wide (w : BitVec 8) : FloatOps.sitofp (F := Ideal) .bf16 (BitVec.signExtend 32 w) = num w := by
  unfold num
  show (((BitVec.signExtend 32 w).toInt : ℝ) : EReal) = ((w.toInt : ℝ) : EReal)
  rw [BitVec.toInt_signExtend_of_le (by decide)]

/-- One product into a hidden column of expert `e`, scaled. -/
def lift (v : Fin 4096 → EReal) (w : IVec ⟨3, ![16, 4096, 3584]⟩ 8) (s : FVec Ideal ⟨3, ![16, 1, 3584]⟩ .f32) (e : Fin 16) (f : Fin 3584) : EReal :=
  (∑ d, v d * num (w (ix3 e d f))) * s (ix3 e 0 f)

/-- The gated hidden column. -/
def gated (g u : EReal) : EReal := g * Ideal.div 1 (1 + Ideal.exp (-g)) * u

/-- Token `t`, normalised, at column `d`. -/
def normed (h : FVec Ideal ⟨2, ![64, 4096]⟩ .f32) (g : FVec Ideal ⟨2, ![1, 4096]⟩ .f32) (t : Fin 64) (d : Fin 4096) : EReal :=
  Ideal.div (h (ix2 t d)) (Ideal.sqrt (Ideal.div (∑ x, h (ix2 t x) * h (ix2 t x)) (Ideal.ofBits .f32 1166016512#32) + Ideal.ofBits .f32 897988541#32)) * g (ix2 0 d)

/-- Expert `e`'s output for the token `v`, at column `d`. -/
def expert (v : Fin 4096 → EReal) (wg : IVec ⟨3, ![16, 4096, 3584]⟩ 8) (sg : FVec Ideal ⟨3, ![16, 1, 3584]⟩ .f32)
    (wu : IVec ⟨3, ![16, 4096, 3584]⟩ 8) (su : FVec Ideal ⟨3, ![16, 1, 3584]⟩ .f32)
    (wd : IVec ⟨3, ![16, 3584, 4096]⟩ 8) (sd : FVec Ideal ⟨3, ![16, 1, 4096]⟩ .f32) (e : Fin 16) (d : Fin 4096) : EReal :=
  (∑ f, gated (lift v wg sg e f) (lift v wu su e f) * num (wd (ix3 e f d))) * sd (ix3 e 0 d)

/-- Row `x` is in the group from `lo` to `hi`. -/
def In (lo hi : BitVec 32) (x : ℤ) : Prop := lo.toInt ≤ x ∧ x < hi.toInt

instance (lo hi : BitVec 32) (x : ℤ) : Decidable (In lo hi x) := by unfold In; infer_instance

/-- A row is in one group at most where the groups do not overlap. -/
theorem In_unique {starts ends : Fin 16 → BitVec 32} (apart : ∀ g h : Fin 16, g ≠ h → (ends g).toInt ≤ (starts g).toInt ∨ (ends h).toInt ≤ (starts h).toInt ∨
      (ends g).toInt ≤ (starts h).toInt ∨ (ends h).toInt ≤ (starts g).toInt)
    {x : ℤ} {e e' : Fin 16} (h : In (starts e) (ends e) x) (h' : In (starts e') (ends e') x) : e = e' := by
  by_contra hne
  have := apart e e' hne
  unfold In at h h'; omega

/-- A sum over the members of a property that has one member. -/
theorem sum_one (P : Fin 16 → Prop) [DecidablePred P] (e : Fin 16) (he : P e) (huniq : ∀ e', P e' → e' = e) (f : Fin 16 → EReal) :
    ∑ e', (if P e' then f e' else 0) = f e := by
  rw [Finset.sum_eq_single e (fun b _ hb => if_neg fun h => hb (huniq b h)) (fun h => absurd (Finset.mem_univ _) h), if_pos he]

/-- A sum over the members of a property that has none. -/
theorem sum_none (P : Fin 16 → Prop) [DecidablePred P] (h : ∀ e, ¬ P e) (f : Fin 16 → EReal) :
    ∑ e', (if P e' then f e' else 0) = 0 :=
  Finset.sum_eq_zero fun e _ => if_neg (h e)

/-- Two numbers that are not negative, distributed over a product. -/
theorem add_mul_nonneg (p q : Prop) [Decidable p] [Decidable q] (a b y : EReal) (ha : 0 ≤ a) (hb : 0 ≤ b) :
    ((if p then a else 0) + (if q then b else 0)) * y = (if p then a * y else 0) + (if q then b * y else 0) := by
  have h1 : (0 : EReal) ≤ (if p then a else 0) := by split <;> simp [ha]
  have h2 : (0 : EReal) ≤ (if q then b else 0) := by split <;> simp [hb]
  rw [EReal.right_distrib_of_nonneg h1 h2]
  congr 1 <;> split <;> simp

/-- Adding up, over the first `n` places of the order, each expert's output times the weight of the token's rows that
    are in its group is adding up, over the token's two rows, the row's weight times the output of the expert whose
    group the row is in: the order lists every expert that has rows once. -/
theorem combine (order : Fin 16 → Fin 16) (n : ℕ) (starts ends : Fin 16 → BitVec 32) (x : Fin 2 → ℤ) (a : Fin 2 → EReal) (y : Fin 16 → EReal)
    (hdiff : ∀ g h : Fin 16, g.val < n → h.val < n → order g = order h → g = h)
    (happ : ∀ g h : Fin 16, g ≠ h → (ends g).toInt ≤ (starts g).toInt ∨ (ends h).toInt ≤ (starts h).toInt ∨
      (ends g).toInt ≤ (starts h).toInt ∨ (ends h).toInt ≤ (starts g).toInt)
    (hcov : ∀ e : Fin 16, (ends e).toInt ≤ (starts e).toInt ∨ ∃ g : Fin 16, g.val < n ∧ order g = e)
    (ha : ∀ k, 0 ≤ a k) :
    (∑ g : Fin 16, if g.val < n then (∑ k, if In (starts (order g)) (ends (order g)) (x k) then a k else 0) * y (order g) else 0)
      = ∑ k, a k * ∑ e, if In (starts e) (ends e) (x k) then y e else 0 := by
  have h1 : ∀ e, (∑ k, if In (starts e) (ends e) (x k) then a k else 0) * y e = ∑ k, if In (starts e) (ends e) (x k) then a k * y e else 0 := fun e => by
    rw [Fin.sum_univ_two, Fin.sum_univ_two]
    exact add_mul_nonneg _ _ _ _ _ (ha 0) (ha 1)
  have h2 : ∀ k, a k * ∑ e, (if In (starts e) (ends e) (x k) then y e else 0) = ∑ e, if In (starts e) (ends e) (x k) then a k * y e else 0 := fun k => by
    by_cases h : ∃ e, In (starts e) (ends e) (x k)
    · obtain ⟨e, he⟩ := h
      rw [sum_one _ e he fun e' h' => In_unique happ h' he, sum_one _ e he fun e' h' => In_unique happ h' he]
    · have h := not_exists.1 h
      rw [sum_none _ h, sum_none _ h, mul_zero]
  simp only [h1, h2]
  rw [Finset.sum_comm (s := Finset.univ) (t := Finset.univ) (f := fun k e => if In (starts e) (ends e) (x k) then a k * y e else 0)]
  rw [← Finset.sum_filter]
  refine Finset.sum_bij_ne_zero (fun g _ _ => order g) (fun g _ _ => Finset.mem_univ _) ?_ ?_ (fun g _ _ => rfl)
  · intro g hg _ h hh _ e
    exact hdiff g h (Finset.mem_filter.1 hg).2 (Finset.mem_filter.1 hh).2 e
  · intro e _ hne
    rcases hcov e with hc | ⟨g, hg, he⟩
    · refine absurd (Finset.sum_eq_zero fun k _ => if_neg fun hin => ?_) hne
      unfold In at hin; omega
    · exact ⟨g, Finset.mem_filter.2 ⟨Finset.mem_univ _, hg⟩, by rw [he]; exact hne, he⟩

/-- The sum over the first `k` places of those whose last point comes before point `n`. -/
def upTo (k n : ℕ) (z : Fin 16 → EReal) : EReal := ∑ g : Fin 16, if g.val < k ∧ 7 * g.val + 6 < n then z g else 0

theorem upTo_zero (k : ℕ) (z : Fin 16 → EReal) : upTo k 0 z = 0 :=
  Finset.sum_eq_zero fun g _ => if_neg (by omega)

/-- A place's last point adds the place. -/
theorem upTo_add (k n : ℕ) (z : Fin 16 → EReal) (g : Fin 16) (hg : g.val < k) (hn : n = 7 * g.val + 6) : upTo k (n + 1) z = upTo k n z + z g := by
  unfold upTo
  have h : z g = ∑ g' : Fin 16, if g' = g then z g' else 0 := by rw [Finset.sum_ite_eq' Finset.univ g z, if_pos (Finset.mem_univ _)]
  rw [h, ← Finset.sum_add_distrib]
  refine Finset.sum_congr rfl fun g' _ => ?_
  by_cases he : g' = g
  · subst he
    rw [if_pos ⟨hg, by omega⟩, if_neg (by omega), if_pos rfl, zero_add]
  · have hv : g'.val ≠ g.val := fun h => he (Fin.ext h)
    rw [if_neg he, add_zero]
    exact if_congr (by omega) rfl rfl

/-- Any other point adds nothing. -/
theorem upTo_same (k n : ℕ) (z : Fin 16 → EReal) (h : ¬ (n % 7 = 6 ∧ n / 7 < k)) : upTo k (n + 1) z = upTo k n z :=
  Finset.sum_congr rfl fun g' _ => if_congr (by omega) rfl rfl

theorem upTo_all (k : ℕ) (z : Fin 16 → EReal) : upTo k 112 z = ∑ g : Fin 16, if g.val < k then z g else 0 :=
  Finset.sum_congr rfl fun g' _ => if_congr (by omega) rfl rfl

end Cert.MoeMath
-- ==== Proof.MoePayRead.lean ====
/- The expert kernel's vector steps, read at an index over the extended reals. -/
module

public import proofs.«01_k».proof.Proof.Gen.MoeIdeal.Skeleton
public import proofs.«01_k».proof.Proof.MoeMath
public import proofs.«01_k».proof.Proof.MoePre
public import Idealize.ShloMosaic.Lib.Pointwise

@[expose] public section

set_option maxRecDepth 16384

noncomputable section

namespace Cert.MoeIdeal.Hand

open Cert.MoeIdeal Cert.MoeIdeal.Gen Cert.MoeMath
open Idealize.ShloMosaic

/-- One part of the products of an expert: 512 hidden columns. -/
theorem pay5_at (xn : FVec Ideal S64x4096 .bf16) (wg : IVec S1x4096x512 8) (sg : FVec Ideal S1x1x512 .f32) (wu : IVec S1x4096x512 8) (su : FVec Ideal S1x1x512 .f32) (wd : IVec S1x512x4096 8) (t : Fin 64) (d : Fin 4096) :
    k0_pay5 (F := Ideal) xn wg sg wu su wd (ix2 t d)
      = ∑ f, gated ((∑ x, xn (ix2 t x) * num (wg (ix3 0 x f))) * sg (ix3 0 0 f)) ((∑ x, xn (ix2 t x) * num (wu (ix3 0 x f))) * su (ix3 0 0 f)) * num (wd (ix3 0 f d)) := by
  pointwise [k0_pay5]
  rfl

/-- The test of one of the token's rows, as a bit. -/
theorem test_eq (x lo hi : BitVec 32) : IntOp.andi (IntOp.cmpi .sge x lo) (IntOp.cmpi .slt x hi) = 1#1 ↔ In lo hi x.toInt := by
  rw [Cert.Pre_routing_tables.Hand.andi_one, Cert.Pre_routing_tables.Hand.sge_one, Cert.Pre_routing_tables.Hand.slt_one]; rfl

/-- A value selected by that test. -/
theorem select_test (x lo hi : BitVec 32) (a : EReal) : Scalar.select (IntOp.andi (IntOp.cmpi .sge x lo) (IntOp.cmpi .slt x hi)) a 0 = if In lo hi x.toInt then a else 0 := by
  by_cases h : In lo hi x.toInt
  · rw [if_pos h]; exact if_pos ((test_eq x lo hi).2 h)
  · rw [if_neg h]; exact if_neg fun hc => h ((test_eq x lo hi).1 hc)

/-- A bit widened and read as a number is the bit. -/
theorem bit_num (b : BitVec 1) : FloatOps.sitofp (F := Ideal) .f32 (BitVec.setWidth 32 b) = if b = 1#1 then (1 : EReal) else 0 := by
  rcases BitVec.eq_zero_or_eq_one b with rfl | rfl
  · show (((BitVec.setWidth 32 0#1 : BitVec 32).toInt : ℝ) : EReal) = _
    simp
  · show (((BitVec.setWidth 32 1#1 : BitVec 32).toInt : ℝ) : EReal) = _
    simp

/-- The weighted sum after an expert: the expert's scaled output added with the weights of the token's rows that are in
    its group. A token with no such row has weight zero, so the test for one changes nothing. -/
theorem pay3_at (inv : IVec S64x2 32) (lo hi : BitVec 32) (tw : FVec Ideal S64x2 .f32) (mo acc : FVec Ideal S64x4096 .f32) (sd : FVec Ideal S1x1x4096 .f32)(t : Fin 64) (d : Fin 4096) :
    k0_pay3 (F := Ideal) inv lo hi tw mo acc sd (ix2 t d)
      = mo (ix2 t d) + (∑ k, if In lo hi (inv (ix2 t k)).toInt then tw (ix2 t k) else 0) * (acc (ix2 t d) * sd (ix3 0 0 d)) := by
  pointwise [k0_pay3]
  congr 1
  simp only [bit_num, select_test, test_eq]
  split
  · rfl
  · rename_i h
    have hn : ∀ k : Fin 2, ¬ In lo hi (inv (ix2 t k)).toInt := fun k hk => h (by
      rw [Finset.lt_fold_max]
      exact Or.inr ⟨k, Finset.mem_univ _, by rw [if_pos hk]; exact zero_lt_one⟩)
    rw [Finset.sum_eq_zero fun k _ => if_neg (hn k), zero_mul]

/-- The normalised tokens. -/
theorem pay1_at (h : FVec Ideal S64x4096 .f32) (g : FVec Ideal S1x4096 .f32) (t : Fin 64) (d : Fin 4096) :
    k0_pay1 (F := Ideal) h g (ix2 t d) = normed h g t d := by
  pointwise [k0_pay1]
  rfl

/-- The sum starts at zero. -/
theorem pay2_at (t : Fin 64) (d : Fin 4096) :
    k0_pay2 (F := Ideal) (ix2 t d) = 0 := by
  pointwise [k0_pay2]

/-- The last result: the hidden state and the sum. -/
theorem pay4_at (h mo : FVec Ideal S64x4096 .f32) (t : Fin 64) (d : Fin 4096) :
    k0_pay4 (F := Ideal) h mo (ix2 t d) = h (ix2 t d) + mo (ix2 t d) := by
  pointwise [k0_pay4]

/-- The first part of an expert is the products themselves. -/
theorem pay6_at (xn : FVec Ideal S64x4096 .bf16) (wg : IVec S1x4096x512 8) (sg : FVec Ideal S1x1x512 .f32) (wu : IVec S1x4096x512 8) (su : FVec Ideal S1x1x512 .f32) (wd : IVec S1x512x4096 8) :
    k0_pay6 (F := Ideal) xn wg sg wu su wd = k0_pay5 (F := Ideal) xn wg sg wu su wd := by
  pointwise [k0_pay6]

/-- A further part is added to the earlier ones. -/
theorem pay7_at (xn : FVec Ideal S64x4096 .bf16) (wg : IVec S1x4096x512 8) (sg : FVec Ideal S1x1x512 .f32) (wu : IVec S1x4096x512 8) (su : FVec Ideal S1x1x512 .f32) (wd : IVec S1x512x4096 8) (ac : FVec Ideal S64x4096 .f32) (t : Fin 64) (d : Fin 4096) :
    k0_pay7 (F := Ideal) xn wg sg wu su wd ac (ix2 t d) = ac (ix2 t d) + k0_pay5 (F := Ideal) xn wg sg wu su wd (ix2 t d) := by
  pointwise [k0_pay7]

end Cert.MoeIdeal.Hand
-- ==== Proof.MoeValue.lean ====
/- The expert kernel's blocks, its sum over the hidden columns and its weighted sum, read at an index over the extended
   reals. -/
module

public import proofs.«01_k».proof.Proof.MoeBlocks
public import proofs.«01_k».proof.Proof.MoePayRead
public import Idealize.ShloMosaic.Lib.Pipeline.ValueKit

@[expose] public section

set_option maxRecDepth 16384

noncomputable section

namespace Cert.MoeIdeal.Hand

open Cert.MoeIdeal Cert.MoeIdeal.Gen Cert.MoeMath Cert.Pre_routing_tables.Hand
open Idealize.ShloMosaic Idealize.ShloMosaic.TcCoe
open Idealize.ShloMosaic.Pipeline (Dat)

variable (m : (ℓ : Loc nD τ sig) → Buf (Elt Ideal) ℓ)

/-! ## The arguments -/

abbrev aOrder (c : Dev nD) : IVec S16 32 := m ((c.tc : Thread nD τ).loc main_arg0)
abbrev aCount (c : Dev nD) : IVec S1 32 := m ((c.tc : Thread nD τ).loc main_arg1)
abbrev aStarts (c : Dev nD) : IVec S16 32 := m ((c.tc : Thread nD τ).loc main_arg2)
abbrev aEnds (c : Dev nD) : IVec S16 32 := m ((c.tc : Thread nD τ).loc main_arg3)
abbrev aH (c : Dev nD) : FVec Ideal S64x4096 .f32 := m ((c.tc : Thread nD τ).loc main_arg4)
abbrev aG (c : Dev nD) : FVec Ideal S1x4096 .f32 := m ((c.tc : Thread nD τ).loc main_arg5)
abbrev aWg (c : Dev nD) : IVec S16x4096x3584 8 := m ((c.tc : Thread nD τ).loc main_arg6)
abbrev aSg (c : Dev nD) : FVec Ideal S16x1x3584 .f32 := m ((c.tc : Thread nD τ).loc main_arg7)
abbrev aWu (c : Dev nD) : IVec S16x4096x3584 8 := m ((c.tc : Thread nD τ).loc main_arg8)
abbrev aSu (c : Dev nD) : FVec Ideal S16x1x3584 .f32 := m ((c.tc : Thread nD τ).loc main_arg9)
abbrev aWd (c : Dev nD) : IVec S16x3584x4096 8 := m ((c.tc : Thread nD τ).loc main_arg10)
abbrev aSd (c : Dev nD) : FVec Ideal S16x1x4096 .f32 := m ((c.tc : Thread nD τ).loc main_arg11)
abbrev aInv (c : Dev nD) : IVec S64x2 32 := m ((c.tc : Thread nD τ).loc main_arg12)
abbrev aTw (c : Dev nD) : FVec Ideal S64x2 .f32 := m ((c.tc : Thread nD τ).loc main_arg13)

/-! ## The blocks -/

/-- A block of an input, read from its array. -/
theorem rd0 (hO : Ok m) (c : Dev nD) (t : Fin (cfgM m hO).N) (b : Fin 64) (d : Fin 4096) :
    (show FVec Ideal S64x4096 .f32 from iblk m hO c 0 t) (ix2 b d) = aH m c (ix2 b d) := by
  blk_point [iblk, V]
  all_goals first | rfl | (refine (show 0 * _ + _ = _ from ?_); omega)
/-- A block of an input, read from its array. -/
theorem rd1 (hO : Ok m) (c : Dev nD) (t : Fin (cfgM m hO).N) (d : Fin 4096) :
    (show FVec Ideal S1x4096 .f32 from iblk m hO c 1 t) (ix2 0 d) = aG m c (ix2 0 d) := by
  blk_point [iblk, V]
  all_goals first | rfl | (refine (show 0 * _ + _ = _ from ?_); omega)
/-- A block of an input, read from its array. -/
theorem rd8 (hO : Ok m) (c : Dev nD) (t : Fin (cfgM m hO).N) (b : Fin 64) (d : Fin 2) :
    (show IVec S64x2 32 from iblk m hO c 8 t) (ix2 b d) = aInv m c (ix2 b d) := by
  blk_point [iblk, V]
  all_goals first | rfl | (refine (show 0 * _ + _ = _ from ?_); omega)
/-- A block of an input, read from its array. -/
theorem rd9 (hO : Ok m) (c : Dev nD) (t : Fin (cfgM m hO).N) (b : Fin 64) (d : Fin 2) :
    (show FVec Ideal S64x2 .f32 from iblk m hO c 9 t) (ix2 b d) = aTw m c (ix2 b d) := by
  blk_point [iblk, V]
  all_goals first | rfl | (refine (show 0 * _ + _ = _ from ?_); omega)

/-- A block of an input, read from its array. -/
theorem rd2 (hO : Ok m) (c : Dev nD) (t : Fin (cfgM m hO).N) (e j : ℕ) (he : (expertW (tbl m 0) (grid0.coords t)).toNat = e) (hj : (jW (tbl m 1) (grid0.coords t)).toNat = j)
    (h1 : e < 16) (x : Fin 4096) (f : Fin 512) (h2 : j * 512 + f.val < 3584) :
    (show IVec S1x4096x512 8 from iblk m hO c 2 t) (ix3 0 x f) = aWg m c (ix3 ⟨e, h1⟩ x ⟨j * 512 + f.val, h2⟩) := by
  show aWg m c ((((cfgM m hO).win 2).blk t).view.emb (ix3 0 x f)) = _
  refine congrArg (aWg m c) (funext fun a => Fin.ext ?_)
  show cc0_transform_2 inb_S1_S1_0 numel1_S1 k0_off1_inb (tbl m) (grid0.coords t) a * S1x4096x512.size a + 1 * (ix3 (n0 := 1) (n1 := 4096) (n2 := 512) 0 x f a).val = _
  rw [map_up, he, hj]
  match a with
  | ⟨0, _⟩ => show e * 1 + 1 * 0 = e; omega
  | ⟨1, _⟩ => show 0 * 4096 + 1 * x.val = x.val; omega
  | ⟨2, _⟩ => show j * 512 + 1 * f.val = j * 512 + f.val; omega

/-- A block of an input, read from its array. -/
theorem rd4 (hO : Ok m) (c : Dev nD) (t : Fin (cfgM m hO).N) (e j : ℕ) (he : (expertW (tbl m 0) (grid0.coords t)).toNat = e) (hj : (jW (tbl m 1) (grid0.coords t)).toNat = j)
    (h1 : e < 16) (x : Fin 4096) (f : Fin 512) (h2 : j * 512 + f.val < 3584) :
    (show IVec S1x4096x512 8 from iblk m hO c 4 t) (ix3 0 x f) = aWu m c (ix3 ⟨e, h1⟩ x ⟨j * 512 + f.val, h2⟩) := by
  show aWu m c ((((cfgM m hO).win 4).blk t).view.emb (ix3 0 x f)) = _
  refine congrArg (aWu m c) (funext fun a => Fin.ext ?_)
  show cc0_transform_2 inb_S1_S1_0 numel1_S1 k0_off1_inb (tbl m) (grid0.coords t) a * S1x4096x512.size a + 1 * (ix3 (n0 := 1) (n1 := 4096) (n2 := 512) 0 x f a).val = _
  rw [map_up, he, hj]
  match a with
  | ⟨0, _⟩ => show e * 1 + 1 * 0 = e; omega
  | ⟨1, _⟩ => show 0 * 4096 + 1 * x.val = x.val; omega
  | ⟨2, _⟩ => show j * 512 + 1 * f.val = j * 512 + f.val; omega

/-- A block of an input, read from its array. -/
theorem rd3 (hO : Ok m) (c : Dev nD) (t : Fin (cfgM m hO).N) (e j : ℕ) (he : (expertW (tbl m 0) (grid0.coords t)).toNat = e) (hj : (jW (tbl m 1) (grid0.coords t)).toNat = j)
    (h1 : e < 16) (f : Fin 512) (h2 : j * 512 + f.val < 3584) :
    (show FVec Ideal S1x1x512 .f32 from iblk m hO c 3 t) (ix3 0 0 f) = aSg m c (ix3 ⟨e, h1⟩ 0 ⟨j * 512 + f.val, h2⟩) := by
  show aSg m c ((((cfgM m hO).win 3).blk t).view.emb (ix3 0 0 f)) = _
  refine congrArg (aSg m c) (funext fun a => Fin.ext ?_)
  show cc0_transform_2 inb_S1_S1_0 numel1_S1 k0_off1_inb (tbl m) (grid0.coords t) a * S1x1x512.size a + 1 * (ix3 (n0 := 1) (n1 := 1) (n2 := 512) 0 0 f a).val = _
  rw [map_up, he, hj]
  match a with
  | ⟨0, _⟩ => show e * 1 + 1 * 0 = e; omega
  | ⟨1, _⟩ => rfl
  | ⟨2, _⟩ => show j * 512 + 1 * f.val = j * 512 + f.val; omega

/-- A block of an input, read from its array. -/
theorem rd5 (hO : Ok m) (c : Dev nD) (t : Fin (cfgM m hO).N) (e j : ℕ) (he : (expertW (tbl m 0) (grid0.coords t)).toNat = e) (hj : (jW (tbl m 1) (grid0.coords t)).toNat = j)
    (h1 : e < 16) (f : Fin 512) (h2 : j * 512 + f.val < 3584) :
    (show FVec Ideal S1x1x512 .f32 from iblk m hO c 5 t) (ix3 0 0 f) = aSu m c (ix3 ⟨e, h1⟩ 0 ⟨j * 512 + f.val, h2⟩) := by
  show aSu m c ((((cfgM m hO).win 5).blk t).view.emb (ix3 0 0 f)) = _
  refine congrArg (aSu m c) (funext fun a => Fin.ext ?_)
  show cc0_transform_2 inb_S1_S1_0 numel1_S1 k0_off1_inb (tbl m) (grid0.coords t) a * S1x1x512.size a + 1 * (ix3 (n0 := 1) (n1 := 1) (n2 := 512) 0 0 f a).val = _
  rw [map_up, he, hj]
  match a with
  | ⟨0, _⟩ => show e * 1 + 1 * 0 = e; omega
  | ⟨1, _⟩ => rfl
  | ⟨2, _⟩ => show j * 512 + 1 * f.val = j * 512 + f.val; omega

/-- A block of an input, read from its array. -/
theorem rd6 (hO : Ok m) (c : Dev nD) (t : Fin (cfgM m hO).N) (e j : ℕ) (he : (expertW (tbl m 0) (grid0.coords t)).toNat = e) (hj : (jW (tbl m 1) (grid0.coords t)).toNat = j)
    (h1 : e < 16) (f : Fin 512) (d : Fin 4096) (h2 : j * 512 + f.val < 3584) :
    (show IVec S1x512x4096 8 from iblk m hO c 6 t) (ix3 0 f d) = aWd m c (ix3 ⟨e, h1⟩ ⟨j * 512 + f.val, h2⟩ d) := by
  show aWd m c ((((cfgM m hO).win 6).blk t).view.emb (ix3 0 f d)) = _
  refine congrArg (aWd m c) (funext fun a => Fin.ext ?_)
  show cc0_transform_6 inb_S1_S1_0 numel1_S1 k0_off1_inb (tbl m) (grid0.coords t) a * S1x512x4096.size a + 1 * (ix3 (n0 := 1) (n1 := 512) (n2 := 4096) 0 f d a).val = _
  rw [map_down, he, hj]
  match a with
  | ⟨0, _⟩ => show e * 1 + 1 * 0 = e; omega
  | ⟨1, _⟩ => show j * 512 + 1 * f.val = j * 512 + f.val; omega
  | ⟨2, _⟩ => show 0 * 4096 + 1 * d.val = d.val; omega

/-- A block of an input, read from its array. -/
theorem rd7 (hO : Ok m) (c : Dev nD) (t : Fin (cfgM m hO).N) (e : ℕ) (he : (expertW (tbl m 0) (grid0.coords t)).toNat = e)
    (h1 : e < 16) (d : Fin 4096) :
    (show FVec Ideal S1x1x4096 .f32 from iblk m hO c 7 t) (ix3 0 0 d) = aSd m c (ix3 ⟨e, h1⟩ 0 d) := by
  show aSd m c ((((cfgM m hO).win 7).blk t).view.emb (ix3 0 0 d)) = _
  refine congrArg (aSd m c) (funext fun a => Fin.ext ?_)
  show cc0_transform_7 k0_off1_inb numel1_S1 (tbl m) (grid0.coords t) a * S1x1x4096.size a + 1 * (ix3 (n0 := 1) (n1 := 1) (n2 := 4096) 0 0 d a).val = _
  rw [map_scale, he]
  match a with
  | ⟨0, _⟩ => show e * 1 + 1 * 0 = e; omega
  | ⟨1, _⟩ => rfl
  | ⟨2, _⟩ => show 0 * 4096 + 1 * d.val = d.val; omega

/-! ## The tables' words -/

/-- The block held while the place visited is among those that have rows: the point's own. -/
theorem jW_own (x : S1.Idx → BitVec 32) (i : grid0.Coords) (h : (i 0).val < (countW x).toInt.toNat) : (jW x i).toNat = (i 1).val := by
  have h0 : (i 0).val < 16 := (i 0).isLt
  have h1 : (i 1).val < 7 := (i 1).isLt
  have hn : ¬ IntOp.cmpi .sge (BitVec.ofNat 32 (i 0).val) (countW x) = 1#1 := fun hc => by
    have := (sge_one _ _).1 hc
    rw [toInt_ofNat_small _ (by omega)] at this
    omega
  have e : jW x i = BitVec.ofNat 32 (i 1).val := if_neg hn
  rw [e, BitVec.toNat_ofNat]; omega

/-- A bit widened and compared with zero is the bit. -/
theorem bit_test : ∀ b : BitVec 1, BitVec.ofBool (BitVec.setWidth 32 b != 0#32) = 1#1 ↔ b = 1#1 := by decide

/-- The test of the body: the place visited is among those that have rows. -/
theorem cond2_iff (i : grid0.Coords) (v : BitVec 32) : k0_cond2 i v = 1#1 ↔ (i 0).val < v.toInt.toNat := by
  have h0 : (i 0).val < 16 := (i 0).isLt
  have e : IntOp.cmpi .slt (BitVec.ofNat 32 (i 0).val) v = 1#1 ↔ (i 0).val < v.toInt.toNat := by
    rw [slt_one, toInt_ofNat_small _ (by omega)]
    omega
  rw [← e]
  exact bit_test _

/-- A group's word for an expert's number. -/
theorem groupW_at (x : S16.Idx → BitVec 32) (w : BitVec 32) (h : w.toNat < 16) : groupW x w = x (ix1 ⟨w.toNat, h⟩) := by
  unfold groupW; congr 2; exact Fin.ext (by show min w.toNat 15 = w.toNat; omega)

/-! ## The sum over the hidden columns -/

/-- What one hidden column adds to an expert's output before the last scale. -/
def part (c : Dev nD) (e : Fin 16) (b : Fin 64) (d : Fin 4096) (f : Fin 3584) : EReal :=
  gated (lift (normed (aH m c) (aG m c) b) (aWg m c) (aSg m c) e f) (lift (normed (aH m c) (aG m c) b) (aWu m c) (aSu m c) e f) * num (aWd m c (ix3 e f d))

/-- The tokens in the scratch. -/
theorem xnv_at (hO : Ok m) (c : Dev nD) (b : Fin 64) (d : Fin 4096) : xnv m hO c (ix2 b d) = normed (aH m c) (aG m c) b d := by
  have h0 : (show FVec Ideal S64x4096 .f32 from iblk m hO c 0 (tZ m hO)) = aH m c := funext fun y => by
    rw [eq_ix2 y]; exact rd0 m hO c _ _ _
  have h1 : (show FVec Ideal S1x4096 .f32 from iblk m hO c 1 (tZ m hO)) = aG m c := funext fun y => by
    obtain ⟨p, q, rfl⟩ : ∃ (p : Fin 1) (q : Fin 4096), y = ix2 p q := ⟨y 0, y 1, eq_ix2 y⟩
    obtain rfl : p = 0 := Subsingleton.elim _ _
    exact rd1 m hO c _ _
  refine (pay1_at _ _ b d).trans ?_
  exact congrArg₂ (fun h g => normed h g b d) h0 h1

/-- A block's products at a live point. -/
theorem part_at (hO : Ok m) (c : Dev nD) (t : Fin (cfgM m hO).N) (e j : ℕ) (he : (expertW (tbl m 0) (grid0.coords t)).toNat = e) (hj : (jW (tbl m 1) (grid0.coords t)).toNat = j)
    (h1 : e < 16) (h2 : j < 7) (b : Fin 64) (d : Fin 4096) :
    k0_pay5 (F := Ideal) (xnv m hO c) (iblk m hO c 2 t) (iblk m hO c 3 t) (iblk m hO c 4 t) (iblk m hO c 5 t) (iblk m hO c 6 t) (ix2 b d)
      = ∑ f : Fin 512, part m c ⟨e, h1⟩ b d ⟨j * 512 + f.val, by omega⟩ := by
  refine (pay5_at _ _ _ _ _ _ b d).trans (Finset.sum_congr rfl fun f _ => ?_)
  have hf : j * 512 + f.val < 3584 := by omega
  unfold part lift
  refine congrArg₂ (· * ·) (congrArg₂ gated (congrArg₂ (· * ·) (Finset.sum_congr rfl fun x _ => congrArg₂ (· * ·) (xnv_at m hO c b x) (congrArg num ?_)) ?_)
    (congrArg₂ (· * ·) (Finset.sum_congr rfl fun x _ => congrArg₂ (· * ·) (xnv_at m hO c b x) (congrArg num ?_)) ?_)) (congrArg num ?_)
  · exact rd2 m hO c t e j he hj h1 x f hf
  · exact rd3 m hO c t e j he hj h1 f hf
  · exact rd4 m hO c t e j he hj h1 x f hf
  · exact rd5 m hO c t e j he hj h1 f hf
  · exact rd6 m hO c t e j he hj h1 f d hf

/-- The sum at an expert's first block. -/
theorem accv_first (hO : Ok m) (c : Dev nD) (t : Fin (cfgM m hO).N) (h : t.val % 7 = 0) :
    accv m hO c t.val t.isLt = k0_pay5 (F := Ideal) (xnv m hO c) (iblk m hO c 2 t) (iblk m hO c 3 t) (iblk m hO c 4 t) (iblk m hO c 5 t) (iblk m hO c 6 t) := by
  have e : (grid0.coords t 1).val = 0 := (block_of t).trans h
  have key : ∀ a, accAt m hO c t a = k0_pay5 (F := Ideal) (xnv m hO c) (iblk m hO c 2 t) (iblk m hO c 3 t) (iblk m hO c 4 t) (iblk m hO c 5 t) (iblk m hO c 6 t) := fun a =>
    (if_pos e).trans (pay6_at _ _ _ _ _ _)
  by_cases h0 : t.val = 0
  · obtain ⟨n, hn⟩ := t
    obtain rfl : n = 0 := h0
    exact key _
  · exact (accv_pos m hO c t h0).trans (key _)

/-- The sum at a further block. -/
theorem accv_next (hO : Ok m) (c : Dev nD) (n : ℕ) (hn : n + 1 < (cfgM m hO).N) (h : (n + 1) % 7 ≠ 0) (b : Fin 64) (d : Fin 4096) :
    accv m hO c (n + 1) hn (ix2 b d) = accv m hO c n (Nat.lt_of_succ_lt hn) (ix2 b d)
      + k0_pay5 (F := Ideal) (xnv m hO c) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (ix2 b d) := by
  have e : ¬ (grid0.coords (⟨n + 1, hn⟩ : Fin grid0.N) 1).val = 0 := fun hc => h ((block_of ⟨n + 1, hn⟩).symm.trans hc)
  have key : accv m hO c (n + 1) hn = k0_pay7 (F := Ideal) (xnv m hO c) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (accv m hO c n (Nat.lt_of_succ_lt hn)) := if_neg e
  exact (congrFun key _).trans (pay7_at _ _ _ _ _ _ _ b d)

/-- The sum at the `j`-th block of a place that has rows: the blocks so far. -/
theorem accv_at (hO : Ok m) (c : Dev nD) (g : ℕ) (hg : g < (cnt m).toInt.toNat) (e : ℕ) (h1 : e < 16)
    (he : ∀ i : grid0.Coords, (i 0).val = g → (expertW (tbl m 0) i).toNat = e) (b : Fin 64) (d : Fin 4096) :
    ∀ (j : ℕ) (hj : j < 7) (hn : 7 * g + j < (cfgM m hO).N), accv m hO c (7 * g + j) hn (ix2 b d)
      = ∑ p : Fin (j + 1), ∑ f : Fin 512, part m c ⟨e, h1⟩ b d ⟨p.val * 512 + f.val, by omega⟩ := by
  have pt : ∀ (j : ℕ) (hj : j < 7) (hn : 7 * g + j < (cfgM m hO).N), k0_pay5 (F := Ideal) (xnv m hO c) (iblk m hO c 2 ⟨7 * g + j, hn⟩) (iblk m hO c 3 ⟨7 * g + j, hn⟩) (iblk m hO c 4 ⟨7 * g + j, hn⟩) (iblk m hO c 5 ⟨7 * g + j, hn⟩) (iblk m hO c 6 ⟨7 * g + j, hn⟩) (ix2 b d)
      = ∑ f : Fin 512, part m c ⟨e, h1⟩ b d ⟨j * 512 + f.val, by omega⟩ := fun j hj hn => by
    have p0 : (grid0.coords (⟨7 * g + j, hn⟩ : Fin grid0.N) 0).val = g := (place_of ⟨7 * g + j, hn⟩).trans (show (7 * g + j) / 7 = g by omega)
    have p1 : (grid0.coords (⟨7 * g + j, hn⟩ : Fin grid0.N) 1).val = j := (block_of ⟨7 * g + j, hn⟩).trans (show (7 * g + j) % 7 = j by omega)
    exact part_at m hO c ⟨7 * g + j, hn⟩ e j (he _ p0) ((jW_own (tbl m 1) _ (lt_of_eq_of_lt p0 hg)).trans p1) h1 hj b d
  intro j
  induction j with
  | zero =>
    intro hj hn
    rw [Fin.sum_univ_one]
    refine (congrFun (accv_first m hO c ⟨7 * g + 0, hn⟩ (show (7 * g + 0) % 7 = 0 by omega)) (ix2 b d)).trans ?_
    exact pt 0 hj hn
  | succ j ih =>
    intro hj hn
    rw [Fin.sum_univ_castSucc]
    refine (accv_next m hO c (7 * g + j) hn (by omega) b d).trans ?_
    exact congrArg₂ (· + ·) (ih (by omega) (Nat.lt_of_succ_lt hn)) (pt (j + 1) hj hn)

/-- The sum at the last block of a place that has rows, scaled: the output of the place's expert. -/
theorem accv_last (hO : Ok m) (c : Dev nD) (g : ℕ) (hg : g < (cnt m).toInt.toNat) (e : ℕ) (h1 : e < 16)
    (he : ∀ i : grid0.Coords, (i 0).val = g → (expertW (tbl m 0) i).toNat = e) (b : Fin 64) (d : Fin 4096) (hn : 7 * g + 6 < (cfgM m hO).N) :
    accv m hO c (7 * g + 6) hn (ix2 b d) * aSd m c (ix3 ⟨e, h1⟩ 0 d)
      = expert (normed (aH m c) (aG m c) b) (aWg m c) (aSg m c) (aWu m c) (aSu m c) (aWd m c) (aSd m c) ⟨e, h1⟩ d := by
  unfold expert
  refine congrArg (· * aSd m c (ix3 ⟨e, h1⟩ 0 d)) ?_
  refine (accv_at m hO c g hg e h1 he b d 6 (by omega) hn).trans ?_
  exact Fin.sum_mul_add_congr fun s k hl => rfl

/-! ## The weighted sum -/

/-- What a place adds for a token at a column: the weights of the token's rows in the group of the place's expert, times
    the expert's output. -/
def placeAdd (c : Dev nD) (ord : Fin 16 → Fin 16) (b : Fin 64) (d : Fin 4096) (g : Fin 16) : EReal :=
  (∑ k, if In (aStarts m c (ix1 (ord g))) (aEnds m c (ix1 (ord g))) (aInv m c (ix2 b k)).toInt then aTw m c (ix2 b k) else 0)
    * expert (normed (aH m c) (aG m c) b) (aWg m c) (aSg m c) (aWu m c) (aSu m c) (aWd m c) (aSd m c) (ord g) d

/-- One point's step of the weighted sum at a point that closes a place. -/
theorem moeAt_close (hO : Ok m) (c : Dev nD) (ord : Fin 16 → Fin 16) (hord : ∀ i : grid0.Coords, (expertW (tbl m 0) i).toNat = (ord ⟨(i 0).val, (i 0).isLt⟩).val)
    (g : Fin 16) (hg : g.val < (cnt m).toInt.toNat) (n : ℕ) (hn : n < (cfgM m hO).N) (hgn : n = 7 * g.val + 6) (prev : FVec Ideal S64x4096 .f32) (b : Fin 64) (d : Fin 4096) :
    moeAt m hO c ⟨n, hn⟩ prev (ix2 b d) = prev (ix2 b d) + placeAdd m c ord b d g := by
  subst hgn
  have p0 : (grid0.coords (⟨7 * g.val + 6, hn⟩ : Fin grid0.N) 0).val = g.val := (place_of ⟨7 * g.val + 6, hn⟩).trans (show (7 * g.val + 6) / 7 = g.val by omega)
  have h2 : k0_cond2 (grid0.coords (⟨7 * g.val + 6, hn⟩ : Fin grid0.N)) (cnt m) = 1#1 := (cond2_iff _ _).2 (lt_of_eq_of_lt p0 hg)
  have h5 : k0_cond5 (grid0.coords (⟨7 * g.val + 6, hn⟩ : Fin grid0.N)) = 1#1 := (cond5_iff _).2 (show (7 * g.val + 6) % 7 = 6 by omega)
  have hw : ∀ i : grid0.Coords, (i 0).val = g.val → (expertW (tbl m 0) i).toNat = (ord g).val := fun i hi => (hord i).trans (congrArg (fun z => (ord z).val) (Fin.ext hi))
  have he := hw _ p0
  have hlo : startAt m (grid0.coords (⟨7 * g.val + 6, hn⟩ : Fin grid0.N)) = aStarts m c (ix1 (ord g)) := by
    refine (groupW_at _ _ (lt_of_eq_of_lt he (ord g).isLt)).trans ?_
    rw [← V_pre m c 2]
    exact congrArg (fun z => aStarts m c (ix1 z)) (Fin.ext he)
  have hhi : endAt m (grid0.coords (⟨7 * g.val + 6, hn⟩ : Fin grid0.N)) = aEnds m c (ix1 (ord g)) := by
    refine (groupW_at _ _ (lt_of_eq_of_lt he (ord g).isLt)).trans ?_
    rw [← V_pre m c 3]
    exact congrArg (fun z => aEnds m c (ix1 z)) (Fin.ext he)
  have step : moeAt m hO c ⟨7 * g.val + 6, hn⟩ prev = k0_pay3 (F := Ideal) (iblk m hO c 8 ⟨7 * g.val + 6, hn⟩) (startAt m (grid0.coords (⟨7 * g.val + 6, hn⟩ : Fin grid0.N))) (endAt m (grid0.coords (⟨7 * g.val + 6, hn⟩ : Fin grid0.N)))
      (iblk m hO c 9 ⟨7 * g.val + 6, hn⟩) prev (accv m hO c (7 * g.val + 6) hn) (iblk m hO c 7 ⟨7 * g.val + 6, hn⟩) := (if_pos h2).trans (if_pos h5)
  refine (congrFun step (ix2 b d)).trans ((pay3_at _ _ _ _ _ _ _ b d).trans (congrArg (prev (ix2 b d) + ·) ?_))
  unfold placeAdd
  refine congrArg₂ (· * ·) (Finset.sum_congr rfl fun k _ => ?_) ?_
  · have r8 := rd8 m hO c ⟨7 * g.val + 6, hn⟩ b k
    have r9 := rd9 m hO c ⟨7 * g.val + 6, hn⟩ b k
    have key : ∀ (lo hi lo' hi' x x' : BitVec 32) (a a' : EReal), lo = lo' → hi = hi' → x = x' → a = a' → (if In lo hi x.toInt then a else 0) = if In lo' hi' x'.toInt then a' else 0 := by
      rintro lo hi _ _ x _ a _ rfl rfl rfl rfl; rfl
    exact key _ _ _ _ _ _ _ _ hlo hhi r8 r9
  · refine Eq.trans ?_ (accv_last m hO c g.val hg (ord g).val (ord g).isLt hw b d hn)
    exact congrArg (accv m hO c (7 * g.val + 6) hn (ix2 b d) * ·) (rd7 m hO c ⟨7 * g.val + 6, hn⟩ (ord g).val he (ord g).isLt d)

/-- One point's step of the weighted sum at any other point. -/
theorem moeAt_keep (hO : Ok m) (c : Dev nD) (n : ℕ) (hn : n < (cfgM m hO).N) (h : ¬ (n % 7 = 6 ∧ n / 7 < (cnt m).toInt.toNat)) (prev : FVec Ideal S64x4096 .f32) :
    moeAt m hO c ⟨n, hn⟩ prev = prev := by
  by_cases h2 : k0_cond2 (grid0.coords (⟨n, hn⟩ : Fin grid0.N)) (cnt m) = 1#1
  · have h5 : ¬ k0_cond5 (grid0.coords (⟨n, hn⟩ : Fin grid0.N)) = 1#1 := fun hc =>
      h ⟨(cond5_iff ⟨n, hn⟩).1 hc, lt_of_eq_of_lt (place_of ⟨n, hn⟩).symm ((cond2_iff _ _).1 h2)⟩
    exact (if_pos h2).trans (if_neg h5)
  · exact if_neg h2

/-- The weighted sum after point `n`: the places closed so far. -/
theorem moev_at (hO : Ok m) (c : Dev nD) (ord : Fin 16 → Fin 16) (hord : ∀ i : grid0.Coords, (expertW (tbl m 0) i).toNat = (ord ⟨(i 0).val, (i 0).isLt⟩).val)
    (b : Fin 64) (d : Fin 4096) : ∀ (n : ℕ) (hn : n < (cfgM m hO).N), moev m hO c n hn (ix2 b d) = upTo (cnt m).toInt.toNat (n + 1) (placeAdd m c ord b d) := by
  have step : ∀ (n : ℕ) (hn : n < (cfgM m hO).N) (prev : FVec Ideal S64x4096 .f32), prev (ix2 b d) = upTo (cnt m).toInt.toNat n (placeAdd m c ord b d) →
      moeAt m hO c ⟨n, hn⟩ prev (ix2 b d) = upTo (cnt m).toInt.toNat (n + 1) (placeAdd m c ord b d) := fun n hn prev hp => by
    have hN : n < 112 := lt_of_lt_of_eq hn N_0
    by_cases h : n % 7 = 6 ∧ n / 7 < (cnt m).toInt.toNat
    · have hgn : n = 7 * (⟨n / 7, by omega⟩ : Fin 16).val + 6 := by show n = 7 * (n / 7) + 6; omega
      rw [upTo_add _ n _ ⟨n / 7, by omega⟩ h.2 hgn, ← hp]
      exact moeAt_close m hO c ord hord ⟨n / 7, by omega⟩ h.2 n hn hgn prev b d
    · rw [upTo_same _ n _ h, ← hp]
      exact congrFun (moeAt_keep m hO c n hn h prev) _
  intro n
  induction n with
  | zero => exact fun hn => step 0 hn _ ((pay2_at b d).trans (upTo_zero _ _).symm)
  | succ n ih => exact fun hn => step (n + 1) hn _ (ih (Nat.lt_of_succ_lt hn))

end Cert.MoeIdeal.Hand
-- ==== Proof.MoeRefRead.lean ====
/- The experts' reference, its result terms named step by step and read at an index. -/
module

public import proofs.«01_k».proof.Proof.Gen.MoeRefIdeal.Run
public import proofs.«01_k».proof.Proof.MoePre
public import proofs.«01_k».proof.Proof.MoeMath
public import proofs.«01_k».proof.Proof.MoePre
public import Idealize.ShloMosaic.Lib.Pointwise
public import Idealize.ShloMosaic.Lib.Pipeline.ValueKit

@[expose] public section

set_option maxRecDepth 16384

noncomputable section

namespace Cert.MoeRefIdeal.Hand

open Cert.MoeRefIdeal Cert.MoeRefIdeal.Gen Cert.MoeMath Cert.Pre_routing_tables.Hand
open Idealize.ShloMosaic Idealize.ShloMosaic.TcCoe Idealize.SL.Sem

/-- Which rows belong to which expert. -/
def MB (starts ends : IVec S16 32) : IVec S128x16 1 :=
  andi (cmpi .sle (broadcastInDim S128x16 ![0, 1] bcast_S1x16_S128x16_0_1 (broadcastInDim S1x16 ![1] bcast_S16_S1x16_1 starts)) (broadcastInDim S128x16 ![0, 1] bcast_S128x1_S128x16_0_1 (broadcastInDim S128x1 ![0] bcast_S128_S128x1_0 (iotaInDim S128 32 0)))) (cmpi .slt (broadcastInDim S128x16 ![0, 1] bcast_S128x1_S128x16_0_1 (broadcastInDim S128x1 ![0] bcast_S128_S128x1_0 (iotaInDim S128 32 0))) (broadcastInDim S128x16 ![0, 1] bcast_S1x16_S128x16_0_1 (broadcastInDim S1x16 ![1] bcast_S16_S1x16_1 ends)))

/-- The normalised tokens. -/
def XN (h : FVec Ideal S64x4096 .f32) (g : FVec Ideal S1x4096 .f32) : FVec Ideal S64x4096 .bf16 :=
  truncf .bf16 (mulf (Host.divf h (broadcastInDim S64x4096 ![0, 1] bcast_S64x1_S64x4096_0_1 (Host.sqrt (addf (Host.divf (broadcastInDim S64x1 ![0] bcast_S64_S64x1_0 (Host.reduceAdd (mulf h h) (constant S_ .f32 0x00000000#32) reducesTo_S64x4096_S64_d1 h_S_)) (broadcastInDim S64x1 ![] bcast_S_S64x1 (constant S_ .f32 0x45800000#32))) (broadcastInDim S64x1 ![] bcast_S_S64x1 (constant S_ .f32 0x358637BD#32)))))) (broadcastInDim S64x4096 ![0, 1] bcast_S1x4096_S64x4096_0_1 (broadcastInDim S1x4096 ![1] bcast_S4096_S1x4096_1 (shapeCast _ g shapeCasts_S1x4096_S4096)))) bitsLt_bf16_f32

/-- The rows: each row's token. -/
def XR (xn : FVec Ideal S64x4096 .bf16) (tok : IVec S128 32) : FVec Ideal S128x4096 .bf16 :=
  Host.gather gather_S64x4096_S128x1_S128x4096_1_0_n_n_0_1_14096 xn (broadcastInDim S128x1 ![0] bcast_S128_S128x1_0 (select (cmpi .slt tok (broadcastInDim S128 ![] bcast_S_S128 (constantI S_ 32 0#32))) (addi tok (broadcastInDim S128 ![] bcast_S_S128 (constantI S_ 32 64#32))) tok))

/-- The grouped product into the hidden columns. -/
def UP (mb : IVec S128x16 1) (xr : FVec Ideal S128x4096 .bf16) (w : IVec S16x4096x3584 8) (s : FVec Ideal S16x1x3584 .f32) : FVec Ideal S128x3584 .f32 :=
  Host.reduceAdd (select (broadcastInDim S128x16x3584 ![0, 1, 2] bcast_S128x16x1_S128x16x3584_0_1_2 (broadcastInDim S128x16x1 ![0, 1] bcast_S128x16_S128x16x1_0_1 mb)) (mulf (Host.dotGeneral dot_S128x4096_S16x4096x3584_S128x16x3584_1_1_0_02_n_n none xr (sitofp .bf16 (extsi 32 w natLt_8_32))) (broadcastInDim S128x16x3584 ![0, 1, 2] bcast_S1x16x3584_S128x16x3584_0_1_2 (broadcastInDim S1x16x3584 ![1, 2] bcast_S16x3584_S1x16x3584_1_2 (shapeCast _ s shapeCasts_S16x1x3584_S16x3584)))) (broadcastInDim S128x16x3584 ![] bcast_S_S128x16x3584 (id (constant S_ .f32 0x00000000#32)))) (constant S_ .f32 0x00000000#32) reducesTo_S128x16x3584_S128x3584_d1 h_S_

/-- The hidden columns. -/
def ACT (gate up : FVec Ideal S128x3584 .f32) : FVec Ideal S128x3584 .bf16 :=
  truncf .bf16 (mulf (mulf gate (Host.divf (broadcastInDim S128x3584 ![] bcast_S_S128x3584 (constant S_ .f32 0x3F800000#32)) (addf (broadcastInDim S128x3584 ![] bcast_S_S128x3584 (constant S_ .f32 0x3F800000#32)) (Host.exp (Host.negf gate))))) up) bitsLt_bf16_f32

/-- The grouped product out of the hidden columns. -/
def DN (mb : IVec S128x16 1) (act : FVec Ideal S128x3584 .bf16) (w : IVec S16x3584x4096 8) (s : FVec Ideal S16x1x4096 .f32) : FVec Ideal S128x4096 .f32 :=
  Host.reduceAdd (select (broadcastInDim S128x16x4096 ![0, 1, 2] bcast_S128x16x1_S128x16x4096_0_1_2 (broadcastInDim S128x16x1 ![0, 1] bcast_S128x16_S128x16x1_0_1 mb)) (mulf (Host.dotGeneral dot_S128x3584_S16x3584x4096_S128x16x4096_1_1_0_02_n_n none act (sitofp .bf16 (extsi 32 w natLt_8_32))) (broadcastInDim S128x16x4096 ![0, 1, 2] bcast_S1x16x4096_S128x16x4096_0_1_2 (broadcastInDim S1x16x4096 ![1, 2] bcast_S16x4096_S1x16x4096_1_2 (shapeCast _ s shapeCasts_S16x1x4096_S16x4096)))) (broadcastInDim S128x16x4096 ![] bcast_S_S128x16x4096 (id (constant S_ .f32 0x00000000#32)))) (constant S_ .f32 0x00000000#32) reducesTo_S128x16x4096_S128x4096_d1 h_S_

/-- Each token's two rows. -/
def RW (dn : FVec Ideal S128x4096 .f32) (inv : IVec S64x2 32) : FVec Ideal S64x2x4096 .f32 :=
  Host.gather gather_S128x4096_S64x2x1_S64x2x4096_2_0_n_n_0_2_14096 dn (broadcastInDim S64x2x1 ![0, 1] bcast_S64x2_S64x2x1_0_1 (select (cmpi .slt inv (broadcastInDim S64x2 ![] bcast_S_S64x2 (constantI S_ 32 0#32))) (addi inv (broadcastInDim S64x2 ![] bcast_S_S64x2 (constantI S_ 32 128#32))) inv))

/-- The experts' weighted sum. -/
def MO (tw : FVec Ideal S64x2 .f32) (rw : FVec Ideal S64x2x4096 .f32) : FVec Ideal S64x4096 .f32 :=
  Host.reduceAdd (mulf (broadcastInDim S64x2x4096 ![0, 1, 2] bcast_S64x2x1_S64x2x4096_0_1_2 (broadcastInDim S64x2x1 ![0, 1] bcast_S64x2_S64x2x1_0_1 tw)) rw) (constant S_ .f32 0x00000000#32) reducesTo_S64x2x4096_S64x4096_d1 h_S_

variable (m : (ℓ : Loc nD τ sig) → Buf (Elt Ideal) ℓ)

/-- The reference's rows out of the experts, its arguments read. -/
abbrev xrOf (c : Dev nD) : FVec Ideal S128x4096 .bf16 := XR (XN (m ((c.tc : Thread nD τ).loc main_arg4)) (m ((c.tc : Thread nD τ).loc main_arg5))) (m ((c.tc : Thread nD τ).loc main_arg14))
abbrev mbOf (c : Dev nD) : IVec S128x16 1 := MB (m ((c.tc : Thread nD τ).loc main_arg2)) (m ((c.tc : Thread nD τ).loc main_arg3))
abbrev dnOf (c : Dev nD) : FVec Ideal S128x4096 .f32 :=
  DN (mbOf m c) (ACT (UP (mbOf m c) (xrOf m c) (m ((c.tc : Thread nD τ).loc main_arg6)) (m ((c.tc : Thread nD τ).loc main_arg7)))
    (UP (mbOf m c) (xrOf m c) (m ((c.tc : Thread nD τ).loc main_arg8)) (m ((c.tc : Thread nD τ).loc main_arg9))))
    (m ((c.tc : Thread nD τ).loc main_arg10)) (m ((c.tc : Thread nD τ).loc main_arg11))
abbrev moOf (c : Dev nD) : FVec Ideal S64x4096 .f32 := MO (m ((c.tc : Thread nD τ).loc main_arg13)) (RW (dnOf m c) (m ((c.tc : Thread nD τ).loc main_arg12)))

/-- The two results in these terms. -/
theorem res1_eq (c : Dev nD) : Value.res_out1 m c = moOf m c := by
  unfold Value.res_out1 Value.res_main_v76; rfl
theorem res0_eq (c : Dev nD) : Value.res_out0 m c = truncf .bf16 (addf (m ((c.tc : Thread nD τ).loc main_arg4)) (moOf m c)) bitsLt_bf16_f32 := by
  unfold Value.res_out0 Value.res_main_v78; rfl

/-! ## Read at an index -/

/-- A select between a value and zero by a bit. -/
theorem select_zero (b : BitVec 1) (x : EReal) : Scalar.select b x 0 = if b = 1#1 then x else 0 := rfl

theorem mb_at (starts ends : IVec S16 32) (r : Fin 128) (e : Fin 16) :
    MB starts ends (ix2 r e) = IntOp.andi (IntOp.cmpi .sle (starts (ix1 e)) (BitVec.ofNat 32 r.val)) (IntOp.cmpi .slt (BitVec.ofNat 32 r.val) (ends (ix1 e))) := by
  pointwise [MB]

/-- Row `r` belongs to expert `e` when it is in its group. -/
theorem mb_iff (starts ends : IVec S16 32) (r : Fin 128) (e : Fin 16) :
    MB starts ends (ix2 r e) = 1#1 ↔ In (starts (ix1 e)) (ends (ix1 e)) r.val := by
  have hr : (BitVec.ofNat 32 r.val).toInt = r.val := toInt_ofNat_small r.val (by omega)
  rw [mb_at, andi_one, sle_one, slt_one, hr]; rfl

theorem xn_at (h : FVec Ideal S64x4096 .f32) (g : FVec Ideal S1x4096 .f32) (t : Fin 64) (d : Fin 4096) :
    XN h g (ix2 t d) = normed h g t d := by
  pointwise [XN]
  rfl

theorem up_at (mb : IVec S128x16 1) (xr : FVec Ideal S128x4096 .bf16) (w : IVec S16x4096x3584 8) (s : FVec Ideal S16x1x3584 .f32) (r : Fin 128) (f : Fin 3584) :
    UP mb xr w s (ix2 r f) = ∑ e, if mb (ix2 r e) = 1#1 then lift (fun d => xr (ix2 r d)) w s e f else 0 := by
  have hz : id (constant (F := Ideal) S_ FTy.f32 0#32) ix0 = (0 : EReal) := Ideal.ofBits_zero (φ := .f32)
  pointwise [UP]
  simp only [hz, select_zero, num_wide]
  rfl

theorem dn_at (mb : IVec S128x16 1) (act : FVec Ideal S128x3584 .bf16) (w : IVec S16x3584x4096 8) (s : FVec Ideal S16x1x4096 .f32) (r : Fin 128) (d : Fin 4096) :
    DN mb act w s (ix2 r d) = ∑ e, if mb (ix2 r e) = 1#1 then (∑ f, act (ix2 r f) * num (w (ix3 e f d))) * s (ix3 e 0 d) else 0 := by
  have hz : id (constant (F := Ideal) S_ FTy.f32 0#32) ix0 = (0 : EReal) := Ideal.ofBits_zero (φ := .f32)
  pointwise [DN]
  simp only [hz, select_zero, num_wide]

theorem act_at (gate up : FVec Ideal S128x3584 .f32) (r : Fin 128) (f : Fin 3584) :
    ACT gate up (ix2 r f) = gated (gate (ix2 r f)) (up (ix2 r f)) := by
  pointwise [ACT]
  rfl

theorem mo_at (tw : FVec Ideal S64x2 .f32) (rw : FVec Ideal S64x2x4096 .f32) (t : Fin 64) (d : Fin 4096) :
    MO tw rw (ix2 t d) = ∑ k, tw (ix2 t k) * rw (ix3 t k d) := by
  pointwise [MO]

/-- A row of a group, its products: those of the group's expert for the row's token. -/
theorem row_at (starts ends : IVec S16 32) (apart : ∀ g h : Fin 16, g ≠ h → (ends (ix1 g)).toInt ≤ (starts (ix1 g)).toInt ∨ (ends (ix1 h)).toInt ≤ (starts (ix1 h)).toInt ∨
    (ends (ix1 g)).toInt ≤ (starts (ix1 h)).toInt ∨ (ends (ix1 h)).toInt ≤ (starts (ix1 g)).toInt)
    (xr : FVec Ideal S128x4096 .bf16) (wg : IVec S16x4096x3584 8) (sg : FVec Ideal S16x1x3584 .f32) (wu : IVec S16x4096x3584 8) (su : FVec Ideal S16x1x3584 .f32)
    (wd : IVec S16x3584x4096 8) (sd : FVec Ideal S16x1x4096 .f32) (r : Fin 128) (d : Fin 4096) :
    DN (MB starts ends) (ACT (UP (MB starts ends) xr wg sg) (UP (MB starts ends) xr wu su)) wd sd (ix2 r d)
      = ∑ e, if In (starts (ix1 e)) (ends (ix1 e)) r.val then expert (fun x => xr (ix2 r x)) wg sg wu su wd sd e d else 0 := by
  rw [dn_at]
  refine Finset.sum_congr rfl fun e _ => ?_
  by_cases he : In (starts (ix1 e)) (ends (ix1 e)) r.val
  · rw [if_pos ((mb_iff starts ends r e).2 he), if_pos he]
    have hu : ∀ (w : IVec S16x4096x3584 8) (s : FVec Ideal S16x1x3584 .f32) (f : Fin 3584), UP (MB starts ends) xr w s (ix2 r f) = lift (fun x => xr (ix2 r x)) w s e f := fun w s f => by
      rw [up_at]
      exact sum_one (fun e => MB starts ends (ix2 r e) = 1#1) e ((mb_iff starts ends r e).2 he)
        (fun e' h' => In_unique (starts := fun e => starts (ix1 e)) (ends := fun e => ends (ix1 e)) apart ((mb_iff starts ends r e').1 h') he) _
    unfold expert
    simp only [act_at, hu]
  · rw [if_neg fun h => he ((mb_iff starts ends r e).1 h), if_neg he]

/-- The gather of rows `x[idx]` of a matrix by a column of row numbers, read at an index: the row's number read signed and
    clamped into the matrix. -/
theorem gather_rows {α : Type} {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (b : Fin R) (j : Fin B) :
    Host.gather (⟨[1], [0], [], [], [0], 1, ![1, B], wf⟩ : GatherDims ⟨2, ![N, B]⟩ ⟨2, ![R, 1]⟩ ⟨2, ![R, B]⟩) x idx (ix2 b j)
      = x (ix2 ⟨min (idx (ix2 b 0)).toInt.toNat (N - 1), by omega⟩ j) := by
  unfold Host.gather
  congr 1
  funext a
  refine Fin.ext ?_
  generalize hd : (⟨[1], [0], [], [], [0], 1, ![1, B], wf⟩ : GatherDims ⟨2, ![N, B]⟩ ⟨2, ![R, 1]⟩ ⟨2, ![R, B]⟩) = d
  show d.start (ix2 b j) idx a + d.batchCoord (ix2 b j) a + d.offCoord (ix2 b j) a = _
  subst hd
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ ([0] : List (Fin 2)) from List.mem_singleton.mpr rfl)]
    refine congrArg (fun z => min (idx z).toInt.toNat (N - 1)) ?_
    funext c; refine Fin.ext ?_
    match c with
    | ⟨0, _⟩ => rfl
    | ⟨1, _⟩ => rfl
  | ⟨1, _⟩ =>
    unfold GatherDims.start
    rw [dif_neg (fun h => Nat.one_ne_zero (congrArg Fin.val (List.mem_singleton.mp h)))]
    simp only [Nat.zero_add]
    rfl

/-- The same gather by a table of row numbers. -/
theorem gather_table {α : Type} {N B R K w : Nat} (hN : 0 < N)
    (wf : GatherDims.WF ⟨2, ![N, B]⟩ ⟨3, ![R, K, 1]⟩ ⟨3, ![R, K, B]⟩ [2] [0] [] [0] [] 2 ![1, B])
    (x : (⟨2, ![N, B]⟩ : Shape).Idx → α) (idx : IVec ⟨3, ![R, K, 1]⟩ w) (b : Fin R) (k : Fin K) (j : Fin B) :
    Host.gather (⟨[2], [0], [], [], [0], 2, ![1, B], wf⟩ : GatherDims ⟨2, ![N, B]⟩ ⟨3, ![R, K, 1]⟩ ⟨3, ![R, K, B]⟩) x idx (ix3 b k j)
      = x (ix2 ⟨min (idx (ix3 b k 0)).toInt.toNat (N - 1), by omega⟩ j) := by
  unfold Host.gather
  congr 1
  funext a
  refine Fin.ext ?_
  generalize hd : (⟨[2], [0], [], [], [0], 2, ![1, B], wf⟩ : GatherDims ⟨2, ![N, B]⟩ ⟨3, ![R, K, 1]⟩ ⟨3, ![R, K, B]⟩) = d
  show d.start (ix3 b k j) idx a + d.batchCoord (ix3 b k j) a + d.offCoord (ix3 b k j) a = _
  subst hd
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ ([0] : List (Fin 2)) from List.mem_singleton.mpr rfl)]
    refine congrArg (fun z => min (idx z).toInt.toNat (N - 1)) ?_
    funext c; refine Fin.ext ?_
    match c with
    | ⟨0, _⟩ => rfl
    | ⟨1, _⟩ => rfl
    | ⟨2, _⟩ => rfl
  | ⟨1, _⟩ =>
    unfold GatherDims.start
    rw [dif_neg (fun h => Nat.one_ne_zero (congrArg Fin.val (List.mem_singleton.mp h)))]
    simp only [Nat.zero_add]
    rfl

/-- A row number inside the array is taken as it is. -/
theorem wrapped (w n : BitVec 32) (N : ℕ) (hN : N ≤ 128) (h : w.toNat < N) :
    min (Scalar.select (IntOp.cmpi .slt w 0#32) (IntOp.addi w n) w).toInt.toNat (N - 1) = w.toNat := by
  have hw : w.toInt = w.toNat := BitVec.toInt_eq_toNat_of_lt (by omega)
  have hs : Scalar.select (IntOp.cmpi .slt w 0#32) (IntOp.addi w n) w = w := by
    unfold Scalar.select
    refine if_neg fun hc => ?_
    have := (slt_one _ _).1 hc
    rw [hw] at this
    have h0 : (0#32 : BitVec 32).toInt = 0 := rfl
    omega
  rw [hs, hw]; omega

/-- The row of a token. -/
theorem xr_at (xn : FVec Ideal S64x4096 .bf16) (tok : IVec S128 32) (r : Fin 128) (t : Fin 64) (h : tok (ix1 r) = BitVec.ofNat 32 t.val) (d : Fin 4096) :
    XR xn tok (ix2 r d) = xn (ix2 t d) := by
  unfold XR
  refine (gather_rows (by decide) _ _ _ _ _).trans (congrArg (fun z => xn (ix2 z d)) (Fin.ext ?_))
  have hn : (tok (ix1 r)).toNat = t.val := by rw [h, BitVec.toNat_ofNat]; omega
  refine Eq.trans ?_ ((wrapped (tok (ix1 r)) 64#32 64 (by decide) (by omega)).trans hn)
  refine congrArg (fun z : BitVec 32 => min z.toInt.toNat 63) ?_
  pointwise

/-- A token's row. -/
theorem rw_at (dn : FVec Ideal S128x4096 .f32) (inv : IVec S64x2 32) (t : Fin 64) (k : Fin 2) (r : Fin 128) (h : (inv (ix2 t k)).toNat = r.val) (d : Fin 4096) :
    RW dn inv (ix3 t k d) = dn (ix2 r d) := by
  unfold RW
  refine (gather_table (by decide) _ _ _ _ _ _).trans (congrArg (fun z => dn (ix2 z d)) (Fin.ext ?_))
  refine Eq.trans ?_ ((wrapped (inv (ix2 t k)) 128#32 128 (by decide) (by omega)).trans h)
  refine congrArg (fun z : BitVec 32 => min z.toInt.toNat 127) ?_
  pointwise

/-- The reference's weighted sum: over the token's two rows, the weight times the output of the expert the row is sent
    to. -/
theorem sum_at {order count starts ends inv tokens} {weights : FVec Ideal S64x2 .f32} (R : Routing order count starts ends inv weights tokens)
    (h : FVec Ideal S64x4096 .f32) (g : FVec Ideal S1x4096 .f32)
    (wg : IVec S16x4096x3584 8) (sg : FVec Ideal S16x1x3584 .f32) (wu : IVec S16x4096x3584 8) (su : FVec Ideal S16x1x3584 .f32)
    (wd : IVec S16x3584x4096 8) (sd : FVec Ideal S16x1x4096 .f32) (t : Fin 64) (d : Fin 4096) :
    MO weights (RW (DN (MB starts ends) (ACT (UP (MB starts ends) (XR (XN h g) tokens) wg sg) (UP (MB starts ends) (XR (XN h g) tokens) wu su)) wd sd) inv) (ix2 t d)
      = ∑ k, weights (ix2 t k) * ∑ e, if In (starts (ix1 e)) (ends (ix1 e)) (inv (ix2 t k)).toInt then expert (normed h g t) wg sg wu su wd sd e d else 0 := by
  rw [mo_at]
  refine Finset.sum_congr rfl fun k _ => congrArg _ ?_
  have hi := R.inside t k
  rw [rw_at _ _ t k ⟨_, hi⟩ rfl, row_at _ _ R.apart, BitVec.toInt_eq_toNat_of_lt (by omega)]
  have hx : (fun x => XR (XN h g) tokens (ix2 ⟨_, hi⟩ x)) = normed h g t := funext fun x => by
    rw [xr_at _ _ _ t (R.own t k ⟨_, hi⟩ rfl), xn_at]
  rw [hx]

end Cert.MoeRefIdeal.Hand
-- ==== Proof.MoeFinal.lean ====
/- The expert kernel's two result arrays: each is the reference's term of the argument arrays. -/
module

public import proofs.«01_k».proof.Proof.MoeValue
public import proofs.«01_k».proof.Proof.MoeRefRead
public import Idealize.ShloMosaic.Lib.Claim

@[expose] public section

set_option maxRecDepth 16384

noncomputable section

namespace Cert.MoeIdeal.Hand

open Cert.MoeIdeal Cert.MoeIdeal.Gen Cert.MoeMath Cert.Pre_routing_tables.Hand
open Idealize.ShloMosaic Idealize.ShloMosaic.TcCoe Idealize.SL.Sem
open Idealize.ShloMosaic.Pipeline (Dat)
open Cert.MoeRefIdeal.Hand (MB XN XR UP ACT DN RW MO)

variable (m : (ℓ : Loc nD τ sig) → Buf (Elt Ideal) ℓ)

abbrev aTok (c : Dev nD) : IVec S128 32 := m ((c.tc : Thread nD τ).loc main_arg14)

/-- The argument arrays are a routing. -/
abbrev Routed (c : Dev nD) : Prop := Routing (F := Ideal) (aOrder m c) (aCount m c) (aStarts m c) (aEnds m c) (aInv m c) (aTw m c) (aTok m c)

/-- The reference's weighted sum of the kernel's arguments. -/
def moOf (c : Dev nD) : FVec Ideal S64x4096 .f32 :=
  MO (aTw m c) (RW (DN (MB (aStarts m c) (aEnds m c)) (ACT (UP (MB (aStarts m c) (aEnds m c)) (XR (XN (aH m c) (aG m c)) (aTok m c)) (aWg m c) (aSg m c))
    (UP (MB (aStarts m c) (aEnds m c)) (XR (XN (aH m c) (aG m c)) (aTok m c)) (aWu m c) (aSu m c))) (aWd m c) (aSd m c)) (aInv m c))

/-- The reference's residual sum of the kernel's arguments. -/
def outOf (c : Dev nD) : FVec Ideal S64x4096 .bf16 := truncf .bf16 (addf (aH m c) (moOf m c)) bitsLt_bf16_f32

/-- The last step's result is the residual sum. -/
theorem pay4_eq (h mo : FVec Ideal S64x4096 .f32) : k0_pay4 (F := Ideal) h mo = truncf .bf16 (addf h mo) bitsLt_bf16_f32 := by
  pointwise [k0_pay4]

/-- The experts named by the table. -/
theorem named (c : Dev nD) (R : Routed m c) (i : grid0.Coords) : (expertW (tbl (F := Ideal) m 0) i).toNat < 16 := by
  rw [← V_pre m c 0]
  exact R.named ⟨(i 0).val, (i 0).isLt⟩

/-- The expert at a place of the order. -/
def ordOf (c : Dev nD) (R : Routed m c) (g : Fin 16) : Fin 16 := ⟨(aOrder m c (ix1 g)).toNat, R.named g⟩

/-- A weight is not negative. -/
theorem weight_nonneg (c : Dev nD) (R : Routed m c) (b : Fin 64) (k : Fin 2) : (0 : EReal) ≤ aTw m c (ix2 b k) := by
  have h := R.weight b k
  have hz : (FloatOps.ofBits (F := Ideal) .f32 0#32) = (0 : EReal) := Ideal.ofBits_zero (φ := .f32)
  rw [hz] at h
  by_contra hc
  refine absurd h ?_
  show ¬ BitVec.ofBool (decide ((0 : EReal) ≤ aTw m c (ix2 b k))) = 1#1
  rw [decide_eq_false hc]; decide

/-- The kernel's weighted sum after the last point is the reference's. -/
theorem moev_last (hO : Ok m) (c : Dev nD) (R : Routed m c) (hn : 111 < (cfgM m hO).N) (b : Fin 64) (d : Fin 4096) :
    moev m hO c 111 hn (ix2 b d) = moOf m c (ix2 b d) := by
  have hcnt : cnt m = aCount m c (ix1 0) := by unfold cnt; rw [← V_pre m c 1]; rfl
  have hord : ∀ i : grid0.Coords, (expertW (tbl m 0) i).toNat = (ordOf m c R ⟨(i 0).val, (i 0).isLt⟩).val := fun i => by
    rw [← V_pre m c 0]; rfl
  refine (moev_at m hO c (ordOf m c R) hord b d 111 hn).trans ((upTo_all _ _).trans ?_)
  refine Eq.trans ?_ (Cert.MoeRefIdeal.Hand.sum_at R (aH m c) (aG m c) (aWg m c) (aSg m c) (aWu m c) (aSu m c) (aWd m c) (aSd m c) b d).symm
  refine combine (ordOf m c R) (cnt m).toInt.toNat (fun e => aStarts m c (ix1 e)) (fun e => aEnds m c (ix1 e)) (fun k => (aInv m c (ix2 b k)).toInt) (fun k => aTw m c (ix2 b k))
    (expert (normed (aH m c) (aG m c) b) (aWg m c) (aSg m c) (aWu m c) (aSu m c) (aWd m c) (aSd m c) · d) ?_ R.apart ?_ (weight_nonneg m c R b)
  · intro g h hg hh e
    rw [hcnt] at hg hh
    exact R.different g h hg hh (BitVec.eq_of_toNat_eq (show (aOrder m c (ix1 g)).toNat = (aOrder m c (ix1 h)).toNat from congrArg (fun z : Fin 16 => z.val) e))
  · intro e
    rw [hcnt]
    rcases R.covered e with h | ⟨g, hg, he⟩
    · exact Or.inl h
    · exact Or.inr ⟨g, hg, Fin.ext he⟩

/-- The weighted sum as an array. -/
theorem moev_end (hO : Ok m) (c : Dev nD) (R : Routed m c) (t : Fin (cfgM m hO).N) (ht : t.val = 111) : moev m hO c t.val t.isLt = moOf m c := by
  obtain ⟨n, hn⟩ := t
  obtain rfl : n = 111 := ht
  funext y
  obtain ⟨b, d, rfl⟩ : ∃ (b : Fin 64) (d : Fin 4096), y = ix2 b d := ⟨y 0, y 1, eq_ix2 y⟩
  exact moev_last m hO c R hn b d

/-- The last point. -/
def tE (hO : Ok m) : Fin (cfgM m hO).N := ⟨111, lt_of_lt_of_eq (by decide : 111 < 112) (show 112 = (cfgM m hO).N from N_0.symm)⟩

theorem whole_10 (hO : Ok m) : ((cfgM m hO).win 10).WholeAt (tE m hO) := by
  have e := fun t => Pipeline.Window.flush_const ((cfgM m hO).win 10) rfl (fun _ _ => rfl) (n := 112) (m := 111) N_0 rfl t
  refine ⟨(e _).2 rfl, fun t h => ?_, fun a => ?_⟩
  · have hN : t.val < 112 := lt_of_lt_of_eq t.isLt N_0
    have := (e t).1 h
    exact Fin.ext (show t.val = 111 by omega)
  · match a with
    | ⟨0, _⟩ => exact ⟨rfl, rfl⟩
    | ⟨1, _⟩ => exact ⟨rfl, rfl⟩

theorem whole_11 (hO : Ok m) : ((cfgM m hO).win 11).WholeAt (tE m hO) := by
  have e := fun t => Pipeline.Window.flush_const ((cfgM m hO).win 11) rfl (fun _ _ => rfl) (n := 112) (m := 111) N_0 rfl t
  refine ⟨(e _).2 rfl, fun t h => ?_, fun a => ?_⟩
  · have hN : t.val < 112 := lt_of_lt_of_eq t.isLt N_0
    have := (e t).1 h
    exact Fin.ext (show t.val = 111 by omega)
  · match a with
    | ⟨0, _⟩ => exact ⟨rfl, rfl⟩
    | ⟨1, _⟩ => exact ⟨rfl, rfl⟩

/-- The weighted sum's array at the end. -/
theorem final11 (hO : Ok m) (c : Dev nD) (R : Routed m c) : (dats m hO 0 c).arrAt 11 (cfgM m hO).N = moOf m c := by
  refine (dats m hO 0 c).arrAt_eq_of_after_last 11 (tE m hO) (whole_11 m hO) _ fun j => ?_
  have e : (dats m hO 0 c).after 11 (tE m hO) = moOf m c := (after0_11 m hO c (tE m hO)).trans (moev_end m hO c R (tE m hO) rfl)
  exact congrFun e _

/-- The residual sum's array at the end. -/
theorem final10 (hO : Ok m) (c : Dev nD) (R : Routed m c) : (dats m hO 0 c).arrAt 10 (cfgM m hO).N = outOf m c := by
  refine (dats m hO 0 c).arrAt_eq_of_after_last 10 (tE m hO) (whole_10 m hO) _ fun j => ?_
  have h0 : @Eq (FVec Ideal S64x4096 .f32) (iblk m hO c 0 (tE m hO)) (aH m c) := funext fun y => by
    rw [eq_ix2 y]; exact rd0 m hO c _ _ _
  have e0 : @Eq (FVec Ideal S64x4096 .bf16) (outv m hO c (tE m hO)) (outOf m c) :=
    congrArg₂ (fun h mo => k0_pay4 (F := Ideal) h mo) h0 (moev_end m hO c R (tE m hO) rfl) |>.trans (pay4_eq _ _)
  have e : @Eq (FVec Ideal S64x4096 .bf16) ((dats m hO 0 c).after 10 (tE m hO)) (outOf m c) := (after0_10 m hO c (tE m hO)).trans e0
  exact congrFun e _

/-- The kernel's run from any memory that holds a routing: the two results are the reference's terms of the arguments,
    which end unchanged. -/
theorem run_values (ρ : Dev nD → PrngReg) (R : ∀ c, Routed m c) : θ_run defs (onTc (τ := τ) (main (F := Ideal))) ⟨m, fun _ => 0, ρ⟩ (fun r => ∀ c : Dev nD,
    r.2.mem ((c.tc : Thread nD τ).loc main_v0_0) = outOf m c
    ∧ r.2.mem ((c.tc : Thread nD τ).loc main_v0_1) = moOf m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)) := by
  have hE := named m 0 (R 0)
  have hO : Ok m := ok_of _ hE
  exact (θ_run defs _ _).mono (fun r h c => ⟨((h.1.1 c).1 10).trans (final10 m hO c (R c)), ((h.1.1 c).1 11).trans (final11 m hO c (R c)), h.2.1 c⟩)
    (θ_run_and (run_main_quiescent m ρ hE hO) (frame m ρ hE hO))

end Cert.MoeIdeal.Hand

end
-- ==== Proof.MoeSame.lean ====
/- The call as the machine reads it and the call as the ideal reading prints it are one text: the two programs are
   equal term by term, so the ideal text's frame (proved over any reading of the floats) is the call's. -/
module

public import proofs.«01_k».proof.Proof.Gen.Moe.Launch
public import proofs.«01_k».proof.Proof.MoeBlocks

@[expose] public section

set_option maxRecDepth 100000

noncomputable section

namespace Cert.Moe.Hand

open Idealize.ShloMosaic Idealize.SL.Sem

variable {F : FTy → Type} [FloatOps F]

/-- The two bodies are one text. -/
theorem body_eq : @Cert.Moe.cc0_moe F _ _ = @Cert.MoeIdeal.cc0_moe F _ _ := rfl

set_option maxHeartbeats 4000000 in
/-- The two body tables are one. -/
theorem bodies_eq : Cert.Moe.defs₀ (F := F) = Cert.MoeIdeal.defs₀ (F := F) := by
  unfold Cert.Moe.defs₀ Cert.MoeIdeal.defs₀
  refine congrArg (Defs.onTc (nD := Cert.Moe.nD) (τ := Cert.Moe.τ) (sig := Cert.Moe.sig) (Val := Elt F) (Λ := Cert.Moe.Λ₀)) (funext fun l => ?_)
  obtain ⟨l, hl⟩ := l
  obtain rfl : l = 0 := by omega
  funext ⟨t, s⟩
  change @Cert.Moe.cc0_moe F _ _ _ _ _ _ _ _ _ _ _ _ _ _ _ _ _ _ _ _ _ _ _ _ _ _ _ _ _ _ _ _ _ _ _ _ _ _ _ = _
  rw [body_eq]
  rfl

/-- The two programs' definitions are one. -/
theorem defs_eq : Cert.Moe.defs (F := F) = Cert.MoeIdeal.defs (F := F) :=
  congrArg (Pipeline.defs (Cert.Moe.pcfgs (F := F))) bodies_eq

/-- The two programs are one. -/
theorem main_eq : Cert.Moe.main (F := F) = Cert.MoeIdeal.main (F := F) := rfl

/-- The call's frame at tables that list experts: it runs, its arguments end unchanged, every counter ends at zero. -/
theorem frame (m : (ℓ : Loc nD τ sig) → Buf (Elt F) ℓ) (ρ : Dev nD → PrngReg)
    (hE : ∀ i : Cert.MoeIdeal.grid0.Coords, (Cert.MoeIdeal.Hand.expertW (Cert.MoeIdeal.Hand.tbl (F := F) m 0) i).toNat < 16) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) := by
  rw [defs_eq]
  exact Cert.MoeIdeal.Hand.frame (F := F) m ρ hE (Cert.MoeIdeal.Hand.ok_of _ hE)

end Cert.Moe.Hand

end
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Pre_slots_in_pool
public import proofs.«01_k».proof.Proof.Gen.InProjRefIdeal.Run
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.MoeRefIdeal.Run
public import proofs.«01_k».proof.Proof.Gen.Pre_routing_tables
public import proofs.«01_k».proof.Proof.InProjFinal
public import proofs.«01_k».proof.Proof.InProjSame
public import proofs.«01_k».proof.Proof.MoeFinal
public import proofs.«01_k».proof.Proof.MoeSame
public import Idealize.ShloMosaic.Adequacy
public import Idealize.ShloMosaic.Init

@[expose] public section

noncomputable section

namespace Cert.Proof

open Idealize.ShloMosaic Idealize.SL.Sem Cert.InProj

/-- The precondition, read: every token's slot names a slab of the pool. -/
theorem inPool_of_pre (m : (ℓ : Loc Cert.InProjIdeal.nD Cert.InProjIdeal.τ Cert.InProjIdeal.sig) → Buf (Elt Ideal) ℓ)
    (h : Cert.Pre_InProjIdeal_slots_in_pool (hPre_slots_in_pool := Cert.Pre_slots_in_pool.Gen.facts) m) (c : Dev Cert.InProjIdeal.nD) :
    Cert.InProjIdeal.Hand.InPool m c := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  intro b
  have e := congrFun (h c) (ix1 b)
  simp only [Cert.Pre_slots_in_pool.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  show (m ((c.tc : Thread Cert.InProjIdeal.nD Cert.InProjIdeal.τ).loc Cert.InProjIdeal.main_arg8) (ix1 b)).toNat < 83
  omega

/-- The reference's frame: its run, the arguments read; the program declares no semaphore. -/
theorem ref_frame : Cert.quiescent_InProjRefIdeal (hInProjRefIdeal := Cert.InProjRefIdeal.Gen.facts) := fun m ρ _ =>
  (θ_run _ _ _).mono (fun r h => ⟨fun c => (h c).2.2.2.2, sem_eq_zero_of_no_sems (by decide) r.2⟩) (Cert.InProjRefIdeal.Hand.run m ρ)

/-- The expert kernel's precondition, read: the argument arrays are a routing. -/
theorem routed_of_pre (m : (ℓ : Loc Cert.MoeIdeal.nD Cert.MoeIdeal.τ Cert.MoeIdeal.sig) → Buf (Elt Ideal) ℓ)
    (h : Cert.Pre_MoeIdeal (hPre_routing_tables := Cert.Pre_routing_tables.Gen.facts) m) (c : Dev Cert.MoeIdeal.nD) : Cert.MoeIdeal.Hand.Routed m c :=
  Cert.Pre_routing_tables.Hand.routing_of _ _ _ _ _ _ _ _ _ _ _ _ _ _ _ (h c)

/-- At any float instance, a routing's order names experts. -/
theorem moe_frame : Cert.quiescent_Moe (hMoe := Cert.Moe.Gen.facts) (hPre_routing_tables := Cert.Pre_routing_tables.Gen.facts) := fun m ρ hp =>
  Cert.Moe.Hand.frame (F := Bits) m ρ fun i => by
    have R := Cert.Pre_routing_tables.Hand.routing_of (F := Bits) _ _ _ _ _ _ _ _ _ _ _ _ _ _ _ (hp 0)
    exact R.named ⟨(i 0).val, (i 0).isLt⟩

/-- The frame of the expert kernel over the extended reals. -/
theorem moe_ideal_frame : Cert.quiescent_MoeIdeal (hMoeIdeal := Cert.MoeIdeal.Gen.facts) (hPre_routing_tables := Cert.Pre_routing_tables.Gen.facts) := fun m ρ hp =>
  have hE := Cert.MoeIdeal.Hand.named m 0 (routed_of_pre m hp 0)
  Cert.MoeIdeal.Hand.frame m ρ hE (Cert.MoeIdeal.Hand.ok_of _ hE)

/-- The expert reference's frame: its run, the arguments read; the program declares no semaphore. -/
theorem moe_ref_frame : Cert.quiescent_MoeRefIdeal (hMoeRefIdeal := Cert.MoeRefIdeal.Gen.facts) := fun m ρ _ =>
  (θ_run _ _ _).mono (fun r h => ⟨fun c => (h c).2.2, sem_eq_zero_of_no_sems (by decide) r.2⟩) (Cert.MoeRefIdeal.Value.run m ρ)

/-- The expert kernel and its reference end with equal results. -/
theorem moe_values : Cert.algebraic_MoeIdeal_MoeRefIdeal (hMoeIdeal := Cert.MoeIdeal.Gen.facts) (hMoeRefIdeal := Cert.MoeRefIdeal.Gen.facts) (hPre_routing_tables := Cert.Pre_routing_tables.Gen.facts) :=
  fun m ρ m' ρ' hpre hm => ⟨_, _, Cert.MoeIdeal.Hand.run_values m ρ (routed_of_pre m hpre), by
    refine (θ_run _ _ _).mono (fun r h c => ?_) (Cert.MoeRefIdeal.Value.run m' ρ')
    obtain ⟨h0, h1, h2, h3, h4, h5, h6, h7, h8, h9, h10, h11, h12, h13, h14⟩ := hm c
    obtain ⟨hout, hmoe, hargs⟩ := h c
    have e : Cert.MoeRefIdeal.Hand.moOf m' c = Cert.MoeIdeal.Hand.moOf m c := by
      unfold Cert.MoeRefIdeal.Hand.moOf Cert.MoeRefIdeal.Hand.dnOf Cert.MoeRefIdeal.Hand.mbOf Cert.MoeRefIdeal.Hand.xrOf
      rw [h2, h3, h4, h5, h6, h7, h8, h9, h10, h11, h12, h13, h14]; rfl
    refine ⟨hout.trans ((Cert.MoeRefIdeal.Hand.res0_eq m' c).trans ?_), hmoe.trans ((Cert.MoeRefIdeal.Hand.res1_eq m' c).trans e), hargs⟩
    rw [e, h4]; rfl⟩

/-- Everything this certificate claims. -/
theorem claim : Cert.Claim := ⟨Cert.InProj.Gen.facts, Cert.InProjIdeal.Gen.facts, Cert.InProjRefIdeal.Gen.facts,
  Cert.Moe.Gen.facts, Cert.MoeIdeal.Gen.facts, Cert.MoeRefIdeal.Gen.facts, Cert.Pre_slots_in_pool.Gen.facts, Cert.Pre_routing_tables.Gen.facts,
  fun m ρ _ => Cert.InProj.Hand.frame (F := Bits) m ρ,
  fun m ρ _ => Cert.InProjIdeal.Hand.frame m ρ,
  fun m ρ _ => Cert.InProjIdeal.Hand.frame m ρ,
  ref_frame,
  fun m ρ _ => ref_frame m ρ (show Cert.Pre_InProjRefIdeal m from trivial),
  moe_frame,
  moe_ideal_frame,
  moe_ref_frame,
  fun m ρ _ => moe_ref_frame m ρ (show Cert.Pre_MoeRefIdeal m from trivial),
  trivial,
  fun m ρ m' ρ' hpre hm => ⟨_, _, _, _, Cert.InProjIdeal.Hand.run_values m ρ (inPool_of_pre m hpre), by
    refine (θ_run _ _ _).mono (fun r h c => ?_) (Cert.InProjRefIdeal.Hand.run m' ρ')
    obtain ⟨h0, h1, h2, h3, h4, h5, h6, h7, h8⟩ := hm c
    obtain ⟨hxc, hcr, hz, hxd, hargs⟩ := h c
    have exz : Cert.InProjRefIdeal.Hand.xzOf m' c = Cert.InProjIdeal.Hand.xz m c := by
      unfold Cert.InProjRefIdeal.Hand.xzOf; rw [h0, h1, h2, h3]
    have ecv : Cert.InProjRefIdeal.Hand.cvOf m' c = Cert.InProjIdeal.Hand.cv m c := by
      unfold Cert.InProjRefIdeal.Hand.cvOf; rw [exz, h4, h5, h6, h8]
    rw [ecv] at hxc hxd
    rw [exz] at hcr hz
    rw [h7] at hxd
    exact ⟨hxc, hcr, hz, hxd, hargs⟩⟩,
  trivial,
  moe_values⟩

end Cert.Proof

end
